-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "d" .f32 0x3F7FDF3D#32 ((3999 / 4001 : ℝ) : EReal)
  ∧ IdealRules.named_const.Statement Cert.KernelIdeal.κ "a" .f32 0x3F462E2B#32 ((158168106805551673639722928031394528208576813017502152184836925329889633471772565209346634879293985636079414830689839097940121843324913211107249183566147054768507756676765686258656668573201584709935204113366590608883948724663625027216046883595145936189441762051535190298385979828986905312389212262495529036557275043592705703290431952565605231214080786790197145954315737965054973127481766771195172527060021459418099471707761488752531802571814484258712631839915624096059991057608284995079026985152119756892264170809415003884074561785759762863972652170281835836840029831144229467472261855284527371863439442701596629213832034501906902583566114176450752508086350235386983371771221678276837767899386589895307795185226913135614806952847424207422846102389758906556544777340820757199080465028051982519892814867665559159802604215685344657921124405375626313950231882214629436029793225677728759230627706254693325442175858766966685509887417706814292718177555305743543683684187673855098682215155150144368331592373233653802983154781605687846692871527950093173481357858482277818803350535363956376970030707274745101456855851086345328044552482924555825843250882780226702475297996154118508548560851028328775421285355665004292241159488569588996656490484548043470197221627308848982666775706329376134340542612432549580174197191722163391356648515378335981177100653292766468667471495822033597832875757092154780402786311247245113252393880626380330032361453696833925869181459618554969520797253245436828106961602886734859837332254708817339313430727502947571294924450338503845621273179477035030662244873197609475703726464732724986946604187042548397224011613508007755255437953989506005244528635278504467943961250209364812079477043788304514407434700278189682263099176672273197488560228076286835210611586976573385415078414461715012465649245416793176489664589711444013053952001 / 204314084528804987086493387259645617022412093943175239992818281206633713205050604481507412152180699909099406019225357351090778342961054169752008607425143068622182410102366179117303834725649502952452249760524409193689875788684821684298477308247674761976187327938026011869992897241267383552950002734613035722596270605685506547107664614203594867620941726213635530006860555635325603753348661558352941339039637341113809136593551159877649484386604350003372762067474124845613175446228771669520419352151107122766393078964984121061977966012907274747996338731659914796748011133399236759752725586860797696299554405228040816946993564423601533713946737792890006274603285299687595364948221084183378895288522538276100200216916536673208800102654182519360621505806669536951051348920451256138030048986262947122493066249881246397505605738952679157232079157643384032967669053345685263241813376860481081654436755187817616068401092896129908330748805897996762231434160268180722244562731063313809870182817045254448402882185689917327994562983166265082831119975164242010450898197083089084929451081593516279711119877325398091006912700873091436782843956059920019369843270633361900886157029734369581569120137667543036798474112144381753469640741263277463124393262564132252193531627646811871448635474892309759323267085803355838989725273365095244217098661948348177846590145961959848645231375368326581209669771165953081803450813533674884590123452761150395769939957870222357491457687869868846906846111090984386345865426183203327462238688536988467401591038401107523837675176949244149456233801308077581768466109308027633824930491313434089006498591165990004245499238491617793014110456339935443463211750194781488262112713325730366350665385431605833705741103022843004715891217343372109211854488478014736143688057420488428677511387862633515181791088581540620278496115374000173058048001 : ℝ) : EReal)
  ∧ IdealRules.named_const.Statement Cert.KernelIdeal.κ "d" .f32 0x3F800000#32 ((3999 / 4001 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x524288 : Shape := ⟨2, ![1, 524288]⟩
abbrev S12x84 : Shape := ⟨2, ![12, 84]⟩
abbrev S1024x512 : Shape := ⟨2, ![1024, 512]⟩
abbrev S512x1024 : Shape := ⟨2, ![512, 1024]⟩
abbrev S_ : Shape := ⟨0, ![]⟩
abbrev S16x84 : Shape := ⟨2, ![16, 84]⟩
abbrev S1 : Shape := ⟨1, ![1]⟩
abbrev S16x1024 : Shape := ⟨2, ![16, 1024]⟩
abbrev S1024x512x84 : Shape := ⟨3, ![1024, 512, 84]⟩
abbrev S1x524288x7x12 : Shape := ⟨4, ![1, 524288, 7, 12]⟩
abbrev S512x128 : Shape := ⟨2, ![512, 128]⟩
abbrev S16x128 : Shape := ⟨2, ![16, 128]⟩
abbrev S1x128 : Shape := ⟨2, ![1, 128]⟩
abbrev S16x1 : Shape := ⟨2, ![16, 1]⟩
abbrev S16x1023 : Shape := ⟨2, ![16, 1023]⟩
abbrev S16x2 : Shape := ⟨2, ![16, 2]⟩
abbrev S16x1022 : Shape := ⟨2, ![16, 1022]⟩
abbrev S16x4 : Shape := ⟨2, ![16, 4]⟩
abbrev S16x1020 : Shape := ⟨2, ![16, 1020]⟩
abbrev S16x8 : Shape := ⟨2, ![16, 8]⟩
abbrev S16x1016 : Shape := ⟨2, ![16, 1016]⟩
abbrev S16x16 : Shape := ⟨2, ![16, 16]⟩
abbrev S16x1008 : Shape := ⟨2, ![16, 1008]⟩
abbrev S16x32 : Shape := ⟨2, ![16, 32]⟩
abbrev S16x992 : Shape := ⟨2, ![16, 992]⟩
abbrev S16x64 : Shape := ⟨2, ![16, 64]⟩
abbrev S16x960 : Shape := ⟨2, ![16, 960]⟩
abbrev S16x896 : Shape := ⟨2, ![16, 896]⟩
abbrev S16x256 : Shape := ⟨2, ![16, 256]⟩
abbrev S16x768 : Shape := ⟨2, ![16, 768]⟩
abbrev S16x512 : Shape := ⟨2, ![16, 512]⟩
abbrev S128x16x84 : Shape := ⟨3, ![128, 16, 84]⟩
abbrev S128x84 : Shape := ⟨2, ![128, 84]⟩
abbrev S128x1x84 : Shape := ⟨3, ![128, 1, 84]⟩

abbrev nBuf : Space → Nat
  | .hbm => 14
  | .vmem => 17
  | .smem => 0
  | _ => 0

abbrev bufTy : (tb : Table) → Fin (tcTables nBuf tb) → BufTy
  | .hbm, ⟨0, _⟩ => ⟨S1x524288, .i32⟩
  | .hbm, ⟨1, _⟩ => ⟨S12x84, .f32⟩
  | .hbm, ⟨2, _⟩ => ⟨S1024x512, .i32⟩
  | .hbm, ⟨3, _⟩ => ⟨S512x1024, .i32⟩
  | .hbm, ⟨4, _⟩ => ⟨S_, .f32⟩
  | .hbm, ⟨5, _⟩ => ⟨S16x84, .f32⟩
  | .hbm, ⟨6, _⟩ => ⟨S_, .i32⟩
  | .hbm, ⟨7, _⟩ => ⟨S1, .i32⟩
  | .hbm, ⟨8, _⟩ => ⟨S16x84, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1024x512x84, .f32⟩
  | .hbm, ⟨13, _⟩ => ⟨S1x524288x7x12, .f32⟩
  | .local _ .vmem, ⟨0, _⟩ => ⟨S512x128, .i32⟩
  | .local _ .vmem, ⟨1, _⟩ => ⟨S512x128, .i32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x1024, .f32⟩
  | .local _ .vmem, ⟨7, _⟩ => ⟨S16x1024, .f32⟩
  | .local _ .vmem, ⟨8, _⟩ => ⟨S16x1024, .f32⟩
  | .local _ .vmem, ⟨9, _⟩ => ⟨S512x128, .i32⟩
  | .local _ .vmem, ⟨10, _⟩ => ⟨S512x128, .i32⟩
  | .local _ .vmem, ⟨11, _⟩ => ⟨S16x128, .f32⟩
  | .local _ .vmem, ⟨12, _⟩ => ⟨S16x128, .f32⟩
  | .local _ .vmem, ⟨13, _⟩ => ⟨S16x84, .f32⟩
  | .local _ .vmem, ⟨14, _⟩ => ⟨S128x16x84, .f32⟩
  | .local _ .vmem, ⟨15, _⟩ => ⟨S128x16x84, .f32⟩
  | .local _ .vmem, ⟨16, _⟩ => ⟨S16x128, .f32⟩
  | _, _ => ⟨S1x524288, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_c : Ref sig .tc := ⟨.hbm, 6, rfl⟩
abbrev main_call0_v3 : Ref sig .tc := ⟨.hbm, 7, rfl⟩
abbrev main_call0_v4 : Ref sig .tc := ⟨.hbm, 8, rfl⟩
abbrev main_call0_v5_0 : Ref sig .tc := ⟨.hbm, 9, rfl⟩
abbrev main_call0_v5_1 : Ref sig .tc := ⟨.hbm, 10, rfl⟩
abbrev main_call0_v6 : Ref sig .tc := ⟨.hbm, 11, rfl⟩
abbrev main_call0_v7 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc2_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c512_i32 : BitVec 32 := 512#32
  let v2 : BitVec 32 := Scalar.addi c0_i32 c512_i32
  let c1_i32 : BitVec 32 := 1#32
  ⟨c0_i32, v2, c1_i32⟩
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let v6 : Index := Scalar.indexCast arg4
  let c0_5 : Index := 0#32
  ![v6.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := .none

abbrev stage1_0 : Fin 1 → Memref sig .tc .vmem S16x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S16x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := ⟨2, ![8, 32], ![false, false]⟩

def k2_off1 (i : grid2.Coords) : Fin 2 → Nat :=
  let arg1 : BitVec 32 := BitVec.ofNat 32 (i 1).val
  let c16_i32 : BitVec 32 := 16#32
  let v3 : BitVec 32 := Scalar.muli arg1 c16_i32
  let v4 : Index := Scalar.indexCast v3
  let c0 : Index := 0#32
  ![v4.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S512x128 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S16x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S16x84 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S128x16x84 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]
-- ==== KernelIdeal.lean ====
variable {F : FTy → Type} [FloatOps F] [Named F]
def κ : String → Option EReal := fun
  | "a" => some ((158168106805551673639722928031394528208576813017502152184836925329889633471772565209346634879293985636079414830689839097940121843324913211107249183566147054768507756676765686258656668573201584709935204113366590608883948724663625027216046883595145936189441762051535190298385979828986905312389212262495529036557275043592705703290431952565605231214080786790197145954315737965054973127481766771195172527060021459418099471707761488752531802571814484258712631839915624096059991057608284995079026985152119756892264170809415003884074561785759762863972652170281835836840029831144229467472261855284527371863439442701596629213832034501906902583566114176450752508086350235386983371771221678276837767899386589895307795185226913135614806952847424207422846102389758906556544777340820757199080465028051982519892814867665559159802604215685344657921124405375626313950231882214629436029793225677728759230627706254693325442175858766966685509887417706814292718177555305743543683684187673855098682215155150144368331592373233653802983154781605687846692871527950093173481357858482277818803350535363956376970030707274745101456855851086345328044552482924555825843250882780226702475297996154118508548560851028328775421285355665004292241159488569588996656490484548043470197221627308848982666775706329376134340542612432549580174197191722163391356648515378335981177100653292766468667471495822033597832875757092154780402786311247245113252393880626380330032361453696833925869181459618554969520797253245436828106961602886734859837332254708817339313430727502947571294924450338503845621273179477035030662244873197609475703726464732724986946604187042548397224011613508007755255437953989506005244528635278504467943961250209364812079477043788304514407434700278189682263099176672273197488560228076286835210611586976573385415078414461715012465649245416793176489664589711444013053952001 / 204314084528804987086493387259645617022412093943175239992818281206633713205050604481507412152180699909099406019225357351090778342961054169752008607425143068622182410102366179117303834725649502952452249760524409193689875788684821684298477308247674761976187327938026011869992897241267383552950002734613035722596270605685506547107664614203594867620941726213635530006860555635325603753348661558352941339039637341113809136593551159877649484386604350003372762067474124845613175446228771669520419352151107122766393078964984121061977966012907274747996338731659914796748011133399236759752725586860797696299554405228040816946993564423601533713946737792890006274603285299687595364948221084183378895288522538276100200216916536673208800102654182519360621505806669536951051348920451256138030048986262947122493066249881246397505605738952679157232079157643384032967669053345685263241813376860481081654436755187817616068401092896129908330748805897996762231434160268180722244562731063313809870182817045254448402882185689917327994562983166265082831119975164242010450898197083089084929451081593516279711119877325398091006912700873091436782843956059920019369843270633361900886157029734369581569120137667543036798474112144381753469640741263277463124393262564132252193531627646811871448635474892309759323267085803355838989725273365095244217098661948348177846590145961959848645231375368326581209669771165953081803450813533674884590123452761150395769939957870222357491457687869868846906846111090984386345865426183203327462238688536988467401591038401107523837675176949244149456233801308077581768466109308027633824930491313434089006498591165990004245499238491617793014110456339935443463211750194781488262112713325730366350665385431605833705741103022843004715891217343372109211854488478014736143688057420488428677511387862633515181791088581540620278496115374000173058048001 : ℝ) : EReal)
  | "d" => some ((3999 / 4001 : ℝ) : EReal)
  | _ => none
-- ==== ReferenceIdeal.lean ====
abbrev S1x524288 : Shape := ⟨2, ![1, 524288]⟩
abbrev S12x84 : Shape := ⟨2, ![12, 84]⟩
abbrev S524288 : Shape := ⟨1, ![524288]⟩
abbrev S_ : Shape := ⟨0, ![]⟩
abbrev S524288x1 : Shape := ⟨2, ![524288, 1]⟩
abbrev S1x12 : Shape := ⟨2, ![1, 12]⟩
abbrev S524288x12 : Shape := ⟨2, ![524288, 12]⟩
abbrev S12 : Shape := ⟨1, ![12]⟩
abbrev S524288x84 : Shape := ⟨2, ![524288, 84]⟩
abbrev S1x524288x7x12 : Shape := ⟨4, ![1, 524288, 7, 12]⟩

abbrev nBuf : Space → Nat
  | .hbm => 69
  | .vmem => 0
  | .smem => 0
  | _ => 0

abbrev bufTy : (tb : Table) → Fin (tcTables nBuf tb) → BufTy
  | .hbm, ⟨0, _⟩ => ⟨S1x524288, .i32⟩
  | .hbm, ⟨1, _⟩ => ⟨S12x84, .f32⟩
  | .hbm, ⟨2, _⟩ => ⟨S524288, .i32⟩
  | .hbm, ⟨3, _⟩ => ⟨S_, .i32⟩
  | .hbm, ⟨4, _⟩ => ⟨S524288, .i32⟩
  | .hbm, ⟨5, _⟩ => ⟨S524288, .i1⟩
  | .hbm, ⟨6, _⟩ => ⟨S524288, .f32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S524288, .i32⟩
  | .hbm, ⟨14, _⟩ => ⟨S524288, .i32⟩
  | .hbm, ⟨15, _⟩ => ⟨S_, .i32⟩
  | .hbm, ⟨16, _⟩ => ⟨S524288, .i32⟩
  | .hbm, ⟨17, _⟩ => ⟨S524288, .i1⟩
  | .hbm, ⟨18, _⟩ => ⟨S_, .i32⟩
  | .hbm, ⟨19, _⟩ => ⟨S524288, .i32⟩
  | .hbm, ⟨20, _⟩ => ⟨S524288, .i1⟩
  | .hbm, ⟨21, _⟩ => ⟨S_, .i32⟩
  | .hbm, ⟨22, _⟩ => ⟨S_, .i1⟩
  | .hbm, ⟨23, _⟩ => ⟨S524288, .i1⟩
  | .hbm, ⟨24, _⟩ => ⟨S524288, .i1⟩
  | .hbm, ⟨25, _⟩ => ⟨S524288, .i1⟩
  | .hbm, ⟨26, _⟩ => ⟨S524288, .i32⟩
  | .hbm, ⟨27, _⟩ => ⟨S524288, .i32⟩
  | .hbm, ⟨28, _⟩ => ⟨S524288, .i32⟩
  | .hbm, ⟨29, _⟩ => ⟨S524288x1, .i32⟩
  | .hbm, ⟨30, _⟩ => ⟨S1x12, .i32⟩
  | .hbm, ⟨31, _⟩ => ⟨S524288x12, .i32⟩
  | .hbm, ⟨32, _⟩ => ⟨S524288x12, .i32⟩
  | .hbm, ⟨33, _⟩ => ⟨S524288x12, .i1⟩
  | .hbm, ⟨34, _⟩ => ⟨S524288x12, .f32⟩
  | .hbm, ⟨35, _⟩ => ⟨S524288x1, .f32⟩
  | .hbm, ⟨36, _⟩ => ⟨S524288x12, .f32⟩
  | .hbm, ⟨37, _⟩ => ⟨S524288x12, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S12, .f32⟩
  | .hbm, ⟨43, _⟩ => ⟨S_, .f32⟩
  | .hbm, ⟨44, _⟩ => ⟨S524288x12, .f32⟩
  | .hbm, ⟨45, _⟩ => ⟨S_, .i32⟩
  | .hbm, ⟨46, _⟩ => ⟨S524288x12, .f32⟩
  | .hbm, ⟨47, _⟩ => ⟨S_, .f32⟩
  | .hbm, ⟨48, _⟩ => ⟨S_, .i32⟩
  | .hbm, ⟨49, _⟩ => ⟨S12, .f32⟩
  | .hbm, ⟨50, _⟩ => ⟨S524288x12, .f32⟩
  | .hbm, ⟨51, _⟩ => ⟨S_, .i32⟩
  | .hbm, ⟨52, _⟩ => ⟨S_, .i1⟩
  | .hbm, ⟨53, _⟩ => ⟨S_, .i32⟩
  | .hbm, ⟨54, _⟩ => ⟨S1x12, .f32⟩
  | .hbm, ⟨55, _⟩ => ⟨S12, .f32⟩
  | .hbm, ⟨56, _⟩ => ⟨S12, .f32⟩
  | .hbm, ⟨57, _⟩ => ⟨S12, .f32⟩
  | .hbm, ⟨58, _⟩ => ⟨S12, .f32⟩
  | .hbm, ⟨59, _⟩ => ⟨S_, .f32⟩
  | .hbm, ⟨60, _⟩ => ⟨S12, .f32⟩
  | .hbm, ⟨61, _⟩ => ⟨S12, .f32⟩
  | .hbm, ⟨62, _⟩ => ⟨S1x12, .f32⟩
  | .hbm, ⟨63, _⟩ => ⟨S_, .i32⟩
  | .hbm, ⟨64, _⟩ => ⟨S524288x12, .f32⟩
  | .hbm, ⟨65, _⟩ => ⟨S_, .i32⟩
  | .hbm, ⟨66, _⟩ => ⟨S_, .i32⟩
  | .hbm, ⟨67, _⟩ => ⟨S524288x84, .f32⟩
  | .hbm, ⟨68, _⟩ => ⟨S1x524288x7x12, .f32⟩
  | _, _ => ⟨S1x524288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v4 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_cst : Ref sig .tc := ⟨.hbm, 38, rfl⟩
abbrev main_cst_1 : Ref sig .tc := ⟨.hbm, 39, rfl⟩
abbrev main_v9 : Ref sig .tc := ⟨.hbm, 40, rfl⟩
abbrev main_cst_2 : Ref sig .tc := ⟨.hbm, 41, rfl⟩
abbrev main_v10 : Ref sig .tc := ⟨.hbm, 42, rfl⟩
abbrev main_cst_3 : Ref sig .tc := ⟨.hbm, 43, rfl⟩
abbrev main_v11 : Ref sig .tc := ⟨.hbm, 44, rfl⟩
abbrev main_c_4 : Ref sig .tc := ⟨.hbm, 45, rfl⟩
abbrev main_v12_0 : Ref sig .tc := ⟨.hbm, 46, rfl⟩
abbrev main_v12_1 : Ref sig .tc := ⟨.hbm, 47, rfl⟩
abbrev main_v12_2 : Ref sig .tc := ⟨.hbm, 48, rfl⟩
abbrev main_v12_3 : Ref sig .tc := ⟨.hbm, 49, rfl⟩
abbrev main_v12_4 : Ref sig .tc := ⟨.hbm, 50, rfl⟩
abbrev main_while0c_c_9 : Ref sig .tc := ⟨.hbm, 51, rfl⟩
abbrev main_while0c_v15 : Ref sig .tc := ⟨.hbm, 52, rfl⟩
abbrev main_while0b_call2_c : Ref sig .tc := ⟨.hbm, 53, rfl⟩
abbrev main_while0b_call2_v0 : Ref sig .tc := ⟨.hbm, 54, rfl⟩
abbrev main_while0b_v15 : Ref sig .tc := ⟨.hbm, 55, rfl⟩
abbrev main_while0b_v16 : Ref sig .tc := ⟨.hbm, 56, rfl⟩
abbrev main_while0b_v17 : Ref sig .tc := ⟨.hbm, 57, rfl⟩
abbrev main_while0b_v18 : Ref sig .tc := ⟨.hbm, 58, rfl⟩
abbrev main_while0b_cst_9 : Ref sig .tc := ⟨.hbm, 59, rfl⟩
abbrev main_while0b_v19 : Ref sig .tc := ⟨.hbm, 60, rfl⟩
abbrev main_while0b_v20 : Ref sig .tc := ⟨.hbm, 61, rfl⟩
abbrev main_while0b_call3_v0 : Ref sig .tc := ⟨.hbm, 62, rfl⟩
abbrev main_while0b_call3_c : Ref sig .tc := ⟨.hbm, 63, rfl⟩
abbrev main_while0b_v21 : Ref sig .tc := ⟨.hbm, 64, rfl⟩
abbrev main_while0b_c_10 : Ref sig .tc := ⟨.hbm, 65, rfl⟩
abbrev main_while0b_v22 : Ref sig .tc := ⟨.hbm, 66, rfl⟩
abbrev main_v13 : Ref sig .tc := ⟨.hbm, 67, rfl⟩
abbrev main_v14 : Ref sig .tc := ⟨.hbm, 68, rfl⟩

abbrev nD : Nat := 1
abbrev τ : Topo := Topo.v7x

variable {F : FTy → Type} [FloatOps F]

abbrev main_while0_count : Scf.Loop 32 := ⟨0#32, 524288#32, 1#32⟩
-- ==== Proof.KernelIdealFold.lean ====
/- Region 0: each chunk folded into a pair, its body's triple and its proof data. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, for proof data whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- One staging buffer of output window 1, through which its contents are stated (`View.read_writes_of_cover`: the
    choice does not matter). -/
abbrev VO0_1 : View sig .tc .vmem S16x128 .f32 := (Memref.whole cc0_stg1_0 : Memref sig .tc .vmem S16x128 .f32).view
/-- One staging buffer of output window 2, through which its contents are stated (`View.read_writes_of_cover`: the
    choice does not matter). -/
abbrev VO0_2 : View sig .tc .vmem S16x128 .f32 := (Memref.whole cc0_stg2_0 : Memref sig .tc .vmem S16x128 .f32).view
/-- Each window's current staging memref at point `t`, spelled as the pipeline passes it (`bodyAt0`), and its wholeness. -/
abbrev ms0_0 (t : Fin cfg0.N) : Memref sig .tc .vmem S512x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x128 .f32 := win0_2.stage (cfg0.slots t 2)
abbrev hs0_2 (t : Fin cfg0.N) : (ms0_2 t).IsWhole := hstage0_2 ((cfg0.slots t 2).cast nbuf0_2)

set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons run step by step; the pieces are
    the witness that run finds (assigned when `iexact` hands the buffer to the continuation). -/
noncomputable def kernelRun0_A (c : Dev nD) (i : grid0.Coords) (arg1 : Memref sig .tc .vmem S512x128 .i32) (harg1 : arg1.IsWhole) (arg2 : Memref sig .tc .vmem S16x128 .f32) (harg2 : arg2.IsWhole) (arg3 : Memref sig .tc .vmem S16x128 .f32) (harg3 : arg3.IsWhole)
    (x0 : Vec F S512x128 .i32) :
    Σ' (L1 : List (View.Piece (Elt F) S16x128 .f32)), { L2 : List (View.Piece (Elt F) S16x128 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2)) -∗ K ⟨⟩))
          ⊢ wp frame (wpE (defs₀ (F := F)) Variants.none c none) E (cc0_chunk_fold i arg1 harg1 arg2 harg2 arg3 harg3) K } := by
  refine ⟨?_, ?_, fun E K => ?run⟩
  case run =>
    simp only [cc0_chunk_fold_eq_skeleton]; unfold cc0_chunk_fold_skel
    unfold owns
    iintro ⟨⟨%f0, %hf0, H0⟩, ⟨%d1, %f1, -, H1⟩, ⟨%d2, %f2, -, H2⟩, Hk⟩
    obtain rfl := harg1.eq_unread hf0
    sl_exec
    sl_step
    iapply Hk
    isplitl [H0]
    · iexists _; isplitr; · ipureintro; exact harg1.read_unread _
      iexact H0
    isplitl [H1]; · iexists _; iexact H1
    iexists _; iexact H2

/-- The run's pieces for output 1 tile its block (1 store of `S16x128`), so they cover it. -/
theorem cover0_A_1 (c : Dev nD) (i : grid0.Coords) (arg1 : Memref sig .tc .vmem S512x128 .i32) (harg1 : arg1.IsWhole) (arg2 : Memref sig .tc .vmem S16x128 .f32) (harg2 : arg2.IsWhole) (arg3 : Memref sig .tc .vmem S16x128 .f32) (harg3 : arg3.IsWhole)
    (x0 : Vec F S512x128 .i32) (y : S16x128.Idx) :
    ∃ pc ∈ (kernelRun0_A c i arg1 harg1 arg2 harg2 arg3 harg3 x0).1, y ∈ pc.1.set :=
  View.cover_of_tiledL (kernelRun0_A c i arg1 harg1 arg2 harg2 arg3 harg3 x0).1 S16x128.size (by sl_kernel_rfl) y

/-- What the run leaves in output 1's staging buffer: its pieces read back over junk. -/
def out0_A_1 (c : Dev nD) (i : grid0.Coords) (arg1 : Memref sig .tc .vmem S512x128 .i32) (harg1 : arg1.IsWhole) (arg2 : Memref sig .tc .vmem S16x128 .f32) (harg2 : arg2.IsWhole) (arg3 : Memref sig .tc .vmem S16x128 .f32) (harg3 : arg3.IsWhole)
    (x0 : Vec F S512x128 .i32) : Vec F S16x128 .f32 :=
  VO0_1.read (Elt F) (VO0_1.writes (Elt F) VO0_1.junk (kernelRun0_A c i arg1 harg1 arg2 harg2 arg3 harg3 x0).1)

/-- The run's pieces for output 2 tile its block (1 store of `S16x128`), so they cover it. -/
theorem cover0_A_2 (c : Dev nD) (i : grid0.Coords) (arg1 : Memref sig .tc .vmem S512x128 .i32) (harg1 : arg1.IsWhole) (arg2 : Memref sig .tc .vmem S16x128 .f32) (harg2 : arg2.IsWhole) (arg3 : Memref sig .tc .vmem S16x128 .f32) (harg3 : arg3.IsWhole)
    (x0 : Vec F S512x128 .i32) (y : S16x128.Idx) :
    ∃ pc ∈ (kernelRun0_A c i arg1 harg1 arg2 harg2 arg3 harg3 x0).2.1, y ∈ pc.1.set :=
  View.cover_of_tiledL (kernelRun0_A c i arg1 harg1 arg2 harg2 arg3 harg3 x0).2.1 S16x128.size (by sl_kernel_rfl) y

/-- What the run leaves in output 2's staging buffer: its pieces read back over junk. -/
def out0_A_2 (c : Dev nD) (i : grid0.Coords) (arg1 : Memref sig .tc .vmem S512x128 .i32) (harg1 : arg1.IsWhole) (arg2 : Memref sig .tc .vmem S16x128 .f32) (harg2 : arg2.IsWhole) (arg3 : Memref sig .tc .vmem S16x128 .f32) (harg3 : arg3.IsWhole)
    (x0 : Vec F S512x128 .i32) : Vec F S16x128 .f32 :=
  VO0_2.read (Elt F) (VO0_2.writes (Elt F) VO0_2.junk (kernelRun0_A c i arg1 harg1 arg2 harg2 arg3 harg3 x0).2.1)

/-! ## What the outputs hold after each point -/

/-- What the outputs' staging buffers hold after the body at point `t` (as a tuple, in window order): the run's contents at
    the point's memrefs and input blocks. -/
def outsAt0 (c : Dev nD) (t : Fin cfg0.N) : Vec F S16x128 .f32 × Vec F S16x128 .f32 :=
  (out0_A_1 c (grid0.coords t) (ms0_0 t) (hs0_0 t) (ms0_1 t) (hs0_1 t) (ms0_2 t) (hs0_2 t) (iblk0 V c 0 t), out0_A_2 c (grid0.coords t) (ms0_0 t) (hs0_0 t) (ms0_1 t) (hs0_1 t) (ms0_2 t) (hs0_2 t) (iblk0 V c 0 t))

/-! ## The pipeline's proof data -/

/-- The proof data of pipeline 0 on core `c`: the arrays as the region finds them (`V`); after the body at
    point `t` each input's buffer at its block and the outputs' at `outsAt0`; the invariant the class's
   ; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t).1
    | ⟨2, _⟩ => (outsAt0 V c t).2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
/-- What the window's buffer holds after a grid point. -/
theorem after0_1 (c : Dev nD) (t : Fin cfg0.N) : (dat0 V c).after 1 t = (outsAt0 V c t).1 := by dsimp only [dat0]
/-- What the window's buffer holds after a grid point. -/
theorem after0_2 (c : Dev nD) (t : Fin cfg0.N) : (dat0 V c).after 2 t = (outsAt0 V c t).2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  unfold outsAt0
  unfold out0_A_1 out0_A_2; (try dsimp only)
  iintro ⟨HΦ, Ho, ⟨%d0, H0⟩, ⟨%d1, H1⟩, ⟨%d2, H2⟩⟩
  iapply ((kernelRun0_A c (grid0.coords t) _ _ _ _ _ _ (iblk0 V c 0 t)).2.2 Set.univ _)
  isplitl [H0]; · iexact H0
  isplitl [H1]; · iexists _; iexact H1
  isplitl [H2]; · iexists _; iexact H2
  iintro ⟨H0, ⟨%e1, H1⟩, ⟨%e2, H2⟩⟩
  isplitl [HΦ]; · iexact HΦ
  isplitl [Ho]; · iexact Ho
  isplitl [H0]; · iexact H0
  isplitl [H1]
  · unfold owns; iexists _; isplitr
    swap; · iexact H1
    ipureintro; exact View.read_writes_of_cover _ _ _ _ _ (cover0_A_1 c _ _ _ _ _ _ _ _)
  unfold owns; iexists _; isplitr
  swap; · iexact H2
  ipureintro; exact View.read_writes_of_cover _ _ _ _ _ (cover0_A_2 c _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Hand

end
-- ==== Proof.KernelIdealScan.lean ====
/- Region 1: the scan over the chunks, its body's triple and its proof data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, for proof data whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, for proof data whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole 16 by 1024 array as a rectangle. -/
abbrev r1_0 : Rect S16x1024 := Rect.unit (s := S16x1024) ![0, 0] S16x1024.size inb_S16x1024_S16x1024_0_0

/-! ## What the body leaves in each output window's buffer -/

/-! ### Values of the body that the stores' payloads, spelt out, would write more than once

    Each is a vector the body binds (often a part call's result), stated over the input windows' blocks and
    numbered on from the skeleton's payload functions (`k1_pay40` …, after `k1_pay39`), so that
    `out1_W` and the values after it name it instead of spelling it out (`unfold_out out1_W` opens a canon
    with them, `unfold_payloads` opens them with the payloads); the comment after each is the printed function's
    name for the value (a count appended where that name is bound again). -/

def k1_pay40 (x0 : Vec F S16x1024 .f32) (x1 : Vec F S16x1024 .f32) : IVec S16x1024 32 :=
  iota .tc S16x1024 32 [1] iota_S16x1024_d1_w32 -- `v5`
def k1_pay41 (x0 : Vec F S16x1024 .f32) (x1 : Vec F S16x1024 .f32) : FVec F S16x1024 .f32 :=
  k1_pay8 (F := F) -- `v43`
def k1_pay42 (x0 : Vec F S16x1024 .f32) (x1 : Vec F S16x1024 .f32) : FVec F S16x1024 .f32 :=
  k1_pay9 (View.ld x0 r1_0) -- `v44`
def k1_pay43 (x0 : Vec F S16x1024 .f32) (x1 : Vec F S16x1024 .f32) : FVec F S16x1024 .f32 :=
  k1_pay10 (View.ld x0 r1_0) (View.ld x1 r1_0) -- `v45`
def k1_pay44 (x0 : Vec F S16x1024 .f32) (x1 : Vec F S16x1024 .f32) : FVec F S16x1024 .f32 :=
  k1_pay15 (k1_pay40 x0 x1) (k1_pay41 x0 x1) (Named.named κ "d" 0x3F800000#32) -- `v83`
def k1_pay45 (x0 : Vec F S16x1024 .f32) (x1 : Vec F S16x1024 .f32) : FVec F S16x1024 .f32 :=
  k1_pay16 (k1_pay40 x0 x1) (k1_pay41 x0 x1) (k1_pay42 x0 x1) (Named.named κ "d" 0x3F800000#32) -- `v84`
def k1_pay46 (x0 : Vec F S16x1024 .f32) (x1 : Vec F S16x1024 .f32) : FVec F S16x1024 .f32 :=
  k1_pay18 (k1_pay40 x0 x1) (k1_pay41 x0 x1) (k1_pay42 x0 x1) (Named.named κ "d" 0x3F800000#32) -- `v91`
def k1_pay47 (x0 : Vec F S16x1024 .f32) (x1 : Vec F S16x1024 .f32) : FVec F S16x1024 .f32 :=
  k1_pay20 (k1_pay40 x0 x1) (k1_pay41 x0 x1) (Named.named κ "d" 0x3F800000#32) -- `v95`
def k1_pay48 (x0 : Vec F S16x1024 .f32) (x1 : Vec F S16x1024 .f32) : FVec F S16x1024 .f32 :=
  k1_pay28 (k1_pay40 x0 x1) (k1_pay44 x0 x1) (k1_pay47 x0 x1) -- `v143`
def k1_pay49 (x0 : Vec F S16x1024 .f32) (x1 : Vec F S16x1024 .f32) : FVec F S16x1024 .f32 :=
  k1_pay29 (k1_pay40 x0 x1) (k1_pay44 x0 x1) (k1_pay45 x0 x1) (k1_pay46 x0 x1) (k1_pay47 x0 x1) -- `v144`
def k1_pay50 (x0 : Vec F S16x1024 .f32) (x1 : Vec F S16x1024 .f32) : FVec F S16x1024 .f32 :=
  k1_pay30 (k1_pay40 x0 x1) (k1_pay44 x0 x1) (k1_pay45 x0 x1) (k1_pay17 (k1_pay40 x0 x1) (k1_pay41 x0 x1) (k1_pay42 x0 x1) (k1_pay43 x0 x1) (Named.named κ "d" 0x3F800000#32)) (k1_pay46 x0 x1) (k1_pay19 (k1_pay40 x0 x1) (k1_pay41 x0 x1) (k1_pay42 x0 x1) (k1_pay43 x0 x1) (Named.named κ "d" 0x3F800000#32)) (k1_pay47 x0 x1) -- `v145`

/-- Window 2's staging buffer after the body, from the input windows' blocks: its 1 store as pieces, LAST
    FIRST. -/
def out1_2 (x0 : Vec F S16x1024 .f32) (x1 : Vec F S16x1024 .f32) : Vec F S16x1024 .f32 :=
  View.canon [⟨r1_0, k1_pay1 (k1_pay40 x0 x1) (k1_pay36 (k1_pay40 x0 x1) (k1_pay48 x0 x1) (k1_pay49 x0 x1) (Named.named κ "d" 0x3F800000#32)) (k1_pay37 (k1_pay40 x0 x1) (k1_pay48 x0 x1) (k1_pay49 x0 x1) (k1_pay50 x0 x1) (Named.named κ "d" 0x3F800000#32)) (k1_pay38 (k1_pay40 x0 x1) (k1_pay48 x0 x1) (k1_pay49 x0 x1) (Named.named κ "d" 0x3F800000#32)) (k1_pay39 (k1_pay40 x0 x1) (k1_pay48 x0 x1) (k1_pay49 x0 x1) (k1_pay50 x0 x1) (Named.named κ "d" 0x3F800000#32))⟩]

/-- Its stores tile the buffer (checked by evaluation), so they cover it. -/
theorem cover1_2 (p0 : Vec F S16x1024 .f32) (y : S16x1024.Idx) :
    ∃ pc ∈ ([⟨r1_0, p0⟩] : List (View.Piece (Elt F) S16x1024 .f32)), y ∈ pc.1.set :=
  View.cover_of_tiled [⟨r1_0, p0⟩] S16x1024.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons, run step by step, through every part call. -/
theorem sound_kernel1 (c : Dev nD) (E : Set ℕ) (arg0 : Memref sig .tc .vmem S16x1024 .f32) (harg0 : arg0.IsWhole) (arg1 : Memref sig .tc .vmem S16x1024 .f32) (harg1 : arg1.IsWhole) (arg2 : Memref sig .tc .vmem S16x1024 .f32) (harg2 : arg2.IsWhole)
    (x0 : Vec F S16x1024 .f32) (x1 : Vec F S16x1024 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1_chunk_scan arg0 harg0 arg1 harg1 arg2 harg2) K := by
  simp only [cc1_chunk_scan_eq_skeleton]; unfold cc1_chunk_scan_skel
  simp only [k1_part1_eq_skeleton, k1_part2_eq_skeleton, k1_part3_eq_skeleton, k1_part4_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover1_2 _)).trans ?_
  rfl

/-! ## The pipeline's proof data -/

/-- The proof data of pipeline 1 on core `c`: the arrays as the region finds them (`V`); after the body at
    point `t` each input's buffer at its block and each output's at `out1_W` of the input blocks; the invariant the
    class's; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
/-- What the window's buffer holds after a grid point. -/
theorem after1_1 (c : Dev nD) (t : Fin cfg1.N) : (dat1 V c).after 1 t = iblk1 V c 1 t := by dsimp only [dat1]
/-- What the window's buffer holds after a grid point. -/
theorem after1_2 (c : Dev nD) (t : Fin cfg1.N) : (dat1 V c).after 2 t = out1_2 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- What the window's buffer holds before a grid point. -/
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Hand

end
-- ==== Proof.KernelIdealReplayRun.lean ====
/- Region 2: the replay of each chunk, its body's two runs. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t` of region 2, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, for proof data whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, for proof data whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, for proof data whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0 (`k0_h1`), from the grid coordinates (the skeleton's scalar
    chain substituted). -/
abbrev cond2_0 (i : grid2.Coords) : Prop := (Scalar.cmpi .ne (Scalar.extui (Scalar.cmpi .eq (BitVec.ofNat 32 (i 1).val) 0#32)) 0#32) = 1#1
/-- It holds at the points ≡ 0 (mod 32) — by arithmetic of the point. -/
theorem hcond2_0 : ∀ t : Fin cfg2.N, cond2_0 (grid2.coords t) ↔ t.val % 32 = 0 :=
  (fun t => by
    have ht : t.val < 256 := Nat.lt_of_lt_of_eq t.isLt N_2
    have e0 : (grid2.coords t 0).val = t.val / 32 % 8 := Pipeline.Grid.coords_val t 0 (by decide) rfl
    have e1 : (grid2.coords t 1).val = t.val / 1 % 32 := Pipeline.Grid.coords_val t 1 (by decide) rfl
    simp only [cond2_0, e0, e1]
    word_cmp
   : ∀ t : Fin grid2.N, cond2_0 (grid2.coords t) ↔ t.val % 32 = 0)

/-! ## The kernel body on any staging memrefs: a subtype the run finds -/

/-- Each window's current staging memref at point `t`, spelled as the pipeline passes it (`bodyAt2`), and its wholeness. -/
abbrev ms2_0 (t : Fin cfg2.N) : Memref sig .tc .vmem S512x128 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S16x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S16x84 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x16x84 .f32 := win2_3.stage (cfg2.slots t 3)
abbrev hs2_3 (t : Fin cfg2.N) : (ms2_3 t).IsWhole := hstage2_3 ((cfg2.slots t 3).cast nbuf2_3)
/-- The scratch operands: whole scoped buffers of the kernel's own, passed beside the windows. -/
abbrev scM2_0 : Memref sig .tc .vmem S16x128 .f32 := Memref.whole cc2_scratch0
/-- The scratch `arg6` the kernel carries between points, as a view: what it holds is stated through it. -/
abbrev VS2_0 : View sig .tc .vmem S16x128 .f32 := scM2_0.view

/-- What the region keeps beside the carried scratch: the other calls' scoped buffers at anything, and the generator register. -/
def rest2 (c : Dev nD) : sProp 𝕄 :=
  iprop(Pipeline.scopedRestBut (Ix := Unit) (Name := ℕ) (U := UR sig nD τ) (Lvl := ℕ) (Val := Elt F) spec2 c [cc2_scratch0] ∗ (∃ r, prngReg c r))

/-- The region's invariant with the carried scratch as a memref owned at some contents. -/
theorem PhiA2_eq (c : Dev nD) :
    (Pipeline.ΦA spec2 c : sProp 𝕄)
      = iprop(iprop((∃ d, owns (c : Thread nD τ) scM2_0 fullShare d)) ∗ rest2 c) := by
  unfold Pipeline.ΦA rest2
  rw [Pipeline.scopedRest_split_of_list spec2 c [cc2_scratch0] (by decide) (by decide)]
  simp only [scM2_0, owns_whole]
  exact Idealize.SL.BI.Entails.antisymm Idealize.SL.BI.sep_assoc Idealize.SL.BI.sep_assoc'

set_option maxHeartbeats 1000000 in
/-- What the body's stores leave in each output's staging memref, as pieces (last first) IN CASE A (`scf.if` 0 taken: points 0, 32, … 224: 8 of 256), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons run step by step — each `scf.if` decided by the case's hypotheses `hc·`; the pieces are those the run finds. -/
noncomputable def kernelRun2_A (c : Dev nD) (i : grid2.Coords) (arg2 : Memref sig .tc .vmem S512x128 .i32) (harg2 : arg2.IsWhole) (arg3 : Memref sig .tc .vmem S16x128 .f32) (harg3 : arg3.IsWhole) (arg4 : Memref sig .tc .vmem S16x84 .f32) (harg4 : arg4.IsWhole) (arg5 : Memref sig .tc .vmem S128x16x84 .f32) (harg5 : arg5.IsWhole) (arg6 : Memref sig .tc .vmem S16x128 .f32) (harg6 : arg6.IsWhole) (hc0 : cond2_0 i)
    (x0 : Vec F S512x128 .i32) (x1 : Vec F S16x128 .f32) (x2 : Vec F S16x84 .f32) :
    Σ' (L3 : List (View.Piece (Elt F) S128x16x84 .f32)), { LS0 : List (View.Piece (Elt F) S16x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2_chunk_replay i arg2 harg2 arg3 harg3 arg4 harg4 arg5 harg5 arg6 harg6) K } := by
  refine ⟨?_, ?_, fun E K => ?run⟩
  case run =>
    simp only [cc2_chunk_replay_eq_skeleton]; unfold cc2_chunk_replay_skel
    simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

set_option maxHeartbeats 1000000 in
/-- What the body's stores leave in each output's staging memref, as pieces (last first) IN CASE B (`scf.if` 0 not taken: points 1, 2, … 255: 248 of 256), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons run step by step — each `scf.if` decided by the case's hypotheses `hc·`; the pieces are those the run finds. -/
noncomputable def kernelRun2_B (c : Dev nD) (i : grid2.Coords) (arg2 : Memref sig .tc .vmem S512x128 .i32) (harg2 : arg2.IsWhole) (arg3 : Memref sig .tc .vmem S16x128 .f32) (harg3 : arg3.IsWhole) (arg4 : Memref sig .tc .vmem S16x84 .f32) (harg4 : arg4.IsWhole) (arg5 : Memref sig .tc .vmem S128x16x84 .f32) (harg5 : arg5.IsWhole) (arg6 : Memref sig .tc .vmem S16x128 .f32) (harg6 : arg6.IsWhole) (hc0 : ¬cond2_0 i)
    (x0 : Vec F S512x128 .i32) (x1 : Vec F S16x128 .f32) (x2 : Vec F S16x84 .f32) (xs0 : Vec F S16x128 .f32) :
    Σ' (L3 : List (View.Piece (Elt F) S128x16x84 .f32)), { LS0 : List (View.Piece (Elt F) S16x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2_chunk_replay i arg2 harg2 arg3 harg3 arg4 harg4 arg5 harg5 arg6 harg6) K } := by
  refine ⟨?_, ?_, fun E K => ?run⟩
  case run =>
    simp only [cc2_chunk_replay_eq_skeleton]; unfold cc2_chunk_replay_skel
    simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KernelIdealReplay.lean ====
/- Region 2: what each point leaves in the output and in the carried scratch, its proof data and obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.KernelIdealReplayRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Case A's pieces for scratch `arg6`, which the kernel carries between points, cover it: 2 pieces of `S16x128` tiling it. -/
theorem scover2_A_0 (c : Dev nD) (i : grid2.Coords) (arg2 : Memref sig .tc .vmem S512x128 .i32) (harg2 : arg2.IsWhole) (arg3 : Memref sig .tc .vmem S16x128 .f32) (harg3 : arg3.IsWhole) (arg4 : Memref sig .tc .vmem S16x84 .f32) (harg4 : arg4.IsWhole) (arg5 : Memref sig .tc .vmem S128x16x84 .f32) (harg5 : arg5.IsWhole) (arg6 : Memref sig .tc .vmem S16x128 .f32) (harg6 : arg6.IsWhole) (hc0 : cond2_0 i)
    (x0 : Vec F S512x128 .i32) (x1 : Vec F S16x128 .f32) (x2 : Vec F S16x84 .f32) (y : S16x128.Idx) :
    ∃ pc ∈ (kernelRun2_A c i arg2 harg2 arg3 harg3 arg4 harg4 arg5 harg5 arg6 harg6 hc0 x0 x1 x2).2.1, y ∈ pc.1.set :=
  View.cover_of_tiledL (kernelRun2_A c i arg2 harg2 arg3 harg3 arg4 harg4 arg5 harg5 arg6 harg6 hc0 x0 x1 x2).2.1 S16x128.size (by sl_kernel_rfl) y

/-- What case A leaves in scratch `arg6`: its pieces read back over junk. -/
def sout2_A_0 (c : Dev nD) (i : grid2.Coords) (arg2 : Memref sig .tc .vmem S512x128 .i32) (harg2 : arg2.IsWhole) (arg3 : Memref sig .tc .vmem S16x128 .f32) (harg3 : arg3.IsWhole) (arg4 : Memref sig .tc .vmem S16x84 .f32) (harg4 : arg4.IsWhole) (arg5 : Memref sig .tc .vmem S128x16x84 .f32) (harg5 : arg5.IsWhole) (arg6 : Memref sig .tc .vmem S16x128 .f32) (harg6 : arg6.IsWhole) (hc0 : cond2_0 i)
    (x0 : Vec F S512x128 .i32) (x1 : Vec F S16x128 .f32) (x2 : Vec F S16x84 .f32) : Vec F S16x128 .f32 :=
  VS2_0.read (Elt F) (VS2_0.writes (Elt F) VS2_0.junk (kernelRun2_A c i arg2 harg2 arg3 harg3 arg4 harg4 arg5 harg5 arg6 harg6 hc0 x0 x1 x2).2.1)

/-- Case B's pieces for scratch `arg6`, which the kernel carries between points, cover it: 1 piece of `S16x128` tiling it. -/
theorem scover2_B_0 (c : Dev nD) (i : grid2.Coords) (arg2 : Memref sig .tc .vmem S512x128 .i32) (harg2 : arg2.IsWhole) (arg3 : Memref sig .tc .vmem S16x128 .f32) (harg3 : arg3.IsWhole) (arg4 : Memref sig .tc .vmem S16x84 .f32) (harg4 : arg4.IsWhole) (arg5 : Memref sig .tc .vmem S128x16x84 .f32) (harg5 : arg5.IsWhole) (arg6 : Memref sig .tc .vmem S16x128 .f32) (harg6 : arg6.IsWhole) (hc0 : ¬cond2_0 i)
    (x0 : Vec F S512x128 .i32) (x1 : Vec F S16x128 .f32) (x2 : Vec F S16x84 .f32) (xs0 : Vec F S16x128 .f32) (y : S16x128.Idx) :
    ∃ pc ∈ (kernelRun2_B c i arg2 harg2 arg3 harg3 arg4 harg4 arg5 harg5 arg6 harg6 hc0 x0 x1 x2 xs0).2.1, y ∈ pc.1.set :=
  View.cover_of_tiledL (kernelRun2_B c i arg2 harg2 arg3 harg3 arg4 harg4 arg5 harg5 arg6 harg6 hc0 x0 x1 x2 xs0).2.1 S16x128.size (by sl_kernel_rfl) y

/-- What case B leaves in scratch `arg6`: its pieces read back over junk. -/
def sout2_B_0 (c : Dev nD) (i : grid2.Coords) (arg2 : Memref sig .tc .vmem S512x128 .i32) (harg2 : arg2.IsWhole) (arg3 : Memref sig .tc .vmem S16x128 .f32) (harg3 : arg3.IsWhole) (arg4 : Memref sig .tc .vmem S16x84 .f32) (harg4 : arg4.IsWhole) (arg5 : Memref sig .tc .vmem S128x16x84 .f32) (harg5 : arg5.IsWhole) (arg6 : Memref sig .tc .vmem S16x128 .f32) (harg6 : arg6.IsWhole) (hc0 : ¬cond2_0 i)
    (x0 : Vec F S512x128 .i32) (x1 : Vec F S16x128 .f32) (x2 : Vec F S16x84 .f32) (xs0 : Vec F S16x128 .f32) : Vec F S16x128 .f32 :=
  VS2_0.read (Elt F) (VS2_0.writes (Elt F) VS2_0.junk (kernelRun2_B c i arg2 harg2 arg3 harg3 arg4 harg4 arg5 harg5 arg6 harg6 hc0 x0 x1 x2 xs0).2.1)

/-- One staging buffer of output window 3, through which its contents are stated. -/
abbrev VO2_3 : View sig .tc .vmem S128x16x84 .f32 := (Memref.whole cc2_stg3_0 : Memref sig .tc .vmem S128x16x84 .f32).view

/-- Case A's sixteen stores cover the output's block. -/
theorem cover2_A_3 (c : Dev nD) (i : grid2.Coords) (arg2 : Memref sig .tc .vmem S512x128 .i32) (harg2 : arg2.IsWhole) (arg3 : Memref sig .tc .vmem S16x128 .f32) (harg3 : arg3.IsWhole) (arg4 : Memref sig .tc .vmem S16x84 .f32) (harg4 : arg4.IsWhole) (arg5 : Memref sig .tc .vmem S128x16x84 .f32) (harg5 : arg5.IsWhole) (arg6 : Memref sig .tc .vmem S16x128 .f32) (harg6 : arg6.IsWhole) (hc0 : cond2_0 i)
    (x0 : Vec F S512x128 .i32) (x1 : Vec F S16x128 .f32) (x2 : Vec F S16x84 .f32) (y : S128x16x84.Idx) :
    ∃ pc ∈ (kernelRun2_A c i arg2 harg2 arg3 harg3 arg4 harg4 arg5 harg5 arg6 harg6 hc0 x0 x1 x2).1, y ∈ pc.1.set :=
  View.cover_of_tiledL (kernelRun2_A c i arg2 harg2 arg3 harg3 arg4 harg4 arg5 harg5 arg6 harg6 hc0 x0 x1 x2).1 S128x1x84.size (by sl_kernel_rfl) y

/-- What case A leaves in the output's staging buffer: its stores read back over junk. -/
def out2_A_3 (c : Dev nD) (i : grid2.Coords) (arg2 : Memref sig .tc .vmem S512x128 .i32) (harg2 : arg2.IsWhole) (arg3 : Memref sig .tc .vmem S16x128 .f32) (harg3 : arg3.IsWhole) (arg4 : Memref sig .tc .vmem S16x84 .f32) (harg4 : arg4.IsWhole) (arg5 : Memref sig .tc .vmem S128x16x84 .f32) (harg5 : arg5.IsWhole) (arg6 : Memref sig .tc .vmem S16x128 .f32) (harg6 : arg6.IsWhole) (hc0 : cond2_0 i)
    (x0 : Vec F S512x128 .i32) (x1 : Vec F S16x128 .f32) (x2 : Vec F S16x84 .f32) : Vec F S128x16x84 .f32 :=
  VO2_3.read (Elt F) (VO2_3.writes (Elt F) VO2_3.junk (kernelRun2_A c i arg2 harg2 arg3 harg3 arg4 harg4 arg5 harg5 arg6 harg6 hc0 x0 x1 x2).1)

/-- Case B's sixteen stores cover the output's block. -/
theorem cover2_B_3 (c : Dev nD) (i : grid2.Coords) (arg2 : Memref sig .tc .vmem S512x128 .i32) (harg2 : arg2.IsWhole) (arg3 : Memref sig .tc .vmem S16x128 .f32) (harg3 : arg3.IsWhole) (arg4 : Memref sig .tc .vmem S16x84 .f32) (harg4 : arg4.IsWhole) (arg5 : Memref sig .tc .vmem S128x16x84 .f32) (harg5 : arg5.IsWhole) (arg6 : Memref sig .tc .vmem S16x128 .f32) (harg6 : arg6.IsWhole) (hc0 : ¬cond2_0 i)
    (x0 : Vec F S512x128 .i32) (x1 : Vec F S16x128 .f32) (x2 : Vec F S16x84 .f32) (xs0 : Vec F S16x128 .f32) (y : S128x16x84.Idx) :
    ∃ pc ∈ (kernelRun2_B c i arg2 harg2 arg3 harg3 arg4 harg4 arg5 harg5 arg6 harg6 hc0 x0 x1 x2 xs0).1, y ∈ pc.1.set :=
  View.cover_of_tiledL (kernelRun2_B c i arg2 harg2 arg3 harg3 arg4 harg4 arg5 harg5 arg6 harg6 hc0 x0 x1 x2 xs0).1 S128x1x84.size (by sl_kernel_rfl) y

/-- What case B leaves in the output's staging buffer: its stores read back over junk. -/
def out2_B_3 (c : Dev nD) (i : grid2.Coords) (arg2 : Memref sig .tc .vmem S512x128 .i32) (harg2 : arg2.IsWhole) (arg3 : Memref sig .tc .vmem S16x128 .f32) (harg3 : arg3.IsWhole) (arg4 : Memref sig .tc .vmem S16x84 .f32) (harg4 : arg4.IsWhole) (arg5 : Memref sig .tc .vmem S128x16x84 .f32) (harg5 : arg5.IsWhole) (arg6 : Memref sig .tc .vmem S16x128 .f32) (harg6 : arg6.IsWhole) (hc0 : ¬cond2_0 i)
    (x0 : Vec F S512x128 .i32) (x1 : Vec F S16x128 .f32) (x2 : Vec F S16x84 .f32) (xs0 : Vec F S16x128 .f32) : Vec F S128x16x84 .f32 :=
  VO2_3.read (Elt F) (VO2_3.writes (Elt F) VO2_3.junk (kernelRun2_B c i arg2 harg2 arg3 harg3 arg4 harg4 arg5 harg5 arg6 harg6 hc0 x0 x1 x2 xs0).1)

/-! ## What the outputs hold after each point -/

/-- What the scratch holds after the body at position `n`: the case's run at the point's blocks, over what the position before left. -/
def outsAt2 (c : Dev nD) : (n : ℕ) → n < cfg2.N → Vec F S16x128 .f32
  | 0, hn => sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (iblk2 V c 0 ⟨0, hn⟩) (iblk2 V c 1 ⟨0, hn⟩) (iblk2 V c 2 ⟨0, hn⟩)
  | n + 1, hn =>
    if h0 : (n + 1) % 32 = 0 then
      sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (iblk2 V c 0 ⟨n + 1, hn⟩) (iblk2 V c 1 ⟨n + 1, hn⟩) (iblk2 V c 2 ⟨n + 1, hn⟩)
    else
      sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn))

/-- `outsAt2` at a point of case A: that case's contents. -/
theorem outsAt2_A (c : Dev nD) (t : Fin cfg2.N) (h0 : t.val % 32 = 0) :
    outsAt2 V c t.val t.isLt = sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (iblk2 V c 0 t) (iblk2 V c 1 t) (iblk2 V c 2 t) := by
  obtain ⟨n, hn⟩ := t
  cases n with
  | zero => exact rfl
  | succ n => exact (dif_pos h0).trans rfl

/-- `outsAt2` at a point of case B: that case's contents, over what the point before left. -/
theorem outsAt2_B (c : Dev nD) (t : Fin cfg2.N) (h0 : ¬t.val % 32 = 0) :
    outsAt2 V c t.val t.isLt = sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (iblk2 V c 0 t) (iblk2 V c 1 t) (iblk2 V c 2 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- What the output's staging buffer holds after the body at point `t`: the case's stores, over what the point before left in the scratch. -/
def outAt2 (c : Dev nD) (t : Fin cfg2.N) : Vec F S128x16x84 .f32 :=
  if h0 : t.val % 32 = 0 then
    out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (iblk2 V c 0 t) (iblk2 V c 1 t) (iblk2 V c 2 t)
  else
    out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (iblk2 V c 0 t) (iblk2 V c 1 t) (iblk2 V c 2 t) (outsAt2 V c (t.val - 1) (Nat.lt_of_le_of_lt (Nat.sub_le _ _) t.isLt))

/-- `outAt2` at a chunk block's first point. -/
theorem outAt2_A (c : Dev nD) (t : Fin cfg2.N) (h0 : t.val % 32 = 0) :
    outAt2 V c t = out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (iblk2 V c 0 t) (iblk2 V c 1 t) (iblk2 V c 2 t) := dif_pos h0

/-- `outAt2` at any other point. -/
theorem outAt2_B (c : Dev nD) (t : Fin cfg2.N) (h0 : ¬t.val % 32 = 0) :
    outAt2 V c t = out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (iblk2 V c 0 t) (iblk2 V c 1 t) (iblk2 V c 2 t) (outsAt2 V c (t.val - 1) (Nat.lt_of_le_of_lt (Nat.sub_le _ _) t.isLt)) := dif_neg h0

/-- The invariant before position `n`: before the first point every scratch at anything; afterwards the carried scratch at what the point before left in it, and the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn))) ∗ rest2 c)

/-- Before the first grid point the state is the entry state. -/
theorem PhiS_zero2 (c : Dev nD) (n : ℕ) (h : n ≤ cfg2.N) (hz : n = 0) : PhiS2 V c n h = Pipeline.ΦA spec2 c := by
  subst hz; rfl

/-- After point `n` (before point `n + 1`): the carried scratch at that point's contents. -/
theorem PhiS_succ2 (c : Dev nD) (n : ℕ) (hn : n < cfg2.N) :
    PhiS2 V c (n + 1) hn = iprop(iprop(owns (c : Thread nD τ) scM2_0 fullShare ((outsAt2 V c n hn))) ∗ rest2 c) := rfl

/-- Before a point that is not the first: the carried scratch at what the point before left. -/
theorem PhiS_pos2 (c : Dev nD) (n : ℕ) (h : n ≤ cfg2.N) (hz : n ≠ 0) :
    PhiS2 V c n h = iprop(iprop(owns (c : Thread nD τ) scM2_0 fullShare ((outsAt2 V c (n - 1) (by omega)))) ∗ rest2 c) := by
  cases n with
  | zero => exact absurd rfl hz
  | succ n => rfl

/-! ## The pipeline's proof data -/

/-- The proof data of region 2: the arrays as found, each input's buffer at its block, the output's at `outAt2`; the invariant tracks the scratch. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ t := PhiS2 V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq2 (c : Dev nD) (w : Fin cfg2.W) : (dat2 V c).A w = V c (Pipeline.arrRef spec2 w) := by
  dsimp only [dat2]

/-- The invariant at a point's start (the proof data at `t.castSucc`), restated at `t.val`. -/
theorem PhiS_castSucc2 (c : Dev nD) (t : Fin cfg2.N) :
    (dat2 V c).Φ t.castSucc = PhiS2 V c t.val (Nat.le_of_lt t.isLt) := by
  dsimp only [dat2]; exact Pipeline.Dat.Φ_castSucc (PhiS2 V c) t

/-- What the body leaves, window by window (the proof data's `match` reduced by `dsimp`). -/
theorem after2_0 (c : Dev nD) (t : Fin cfg2.N) : (dat2 V c).after 0 t = iblk2 V c 0 t := by dsimp only [dat2]
/-- What the window's buffer holds after a grid point. -/
theorem after2_1 (c : Dev nD) (t : Fin cfg2.N) : (dat2 V c).after 1 t = iblk2 V c 1 t := by dsimp only [dat2]
/-- What the window's buffer holds after a grid point. -/
theorem after2_2 (c : Dev nD) (t : Fin cfg2.N) : (dat2 V c).after 2 t = iblk2 V c 2 t := by dsimp only [dat2]
/-- What the window's buffer holds after a grid point. -/
theorem after2_3 (c : Dev nD) (t : Fin cfg2.N) : (dat2 V c).after 3 t = outAt2 V c t := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
/-- What the window's buffer holds before a grid point. -/
theorem before2_1 (c : Dev nD) (t : Fin cfg2.N) (d) : (dat2 V c).before 1 t d = iblk2 V c 1 t :=
  before2_1_of V (dat2 V c) (A_eq2 V c 1) (after2_1 V c) t d
/-- What the window's buffer holds before a grid point. -/
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t))

set_option maxHeartbeats 3200000 in
/-- The body at any point: the inputs' memrefs hold their blocks (`before2_W`); the closed forms say which case the point is in (`by_cases`), an output the case reads before covering holds what the point before left (`before2_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    after2_0, after2_1, after2_2, after2_3]
  rw [show (dat2 V c).Φ t.succ = PhiS2 V c (t.val + 1) t.isLt from rfl, PhiS_succ2]
  have hN : t.val < 256 := lt_of_lt_of_eq t.isLt (show cfg2.N = 256 from N_2)
  by_cases h0 : t.val % 32 = 0
  · by_cases hz : t.val = 0
    · rw [PhiS_castSucc2 V c t, PhiS_zero2 V c _ _ hz, PhiA2_eq]
      rw [outsAt2_A V c t h0, outAt2_A V c t h0]
      unfold sout2_A_0 out2_A_3
      iintro ⟨⟨HS0, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (iblk2 V c 0 t) (iblk2 V c 1 t) (iblk2 V c 2 t)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover2_A_0 c _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_A_3 c _ _ _ _ _ _ _ _ _ _ _ _ _ _ _)
    · rw [PhiS_castSucc2 V c t, PhiS_pos2 V c _ _ hz]
      rw [outsAt2_A V c t h0, outAt2_A V c t h0]
      unfold sout2_A_0 out2_A_3
      iintro ⟨⟨HS0, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (iblk2 V c 0 t) (iblk2 V c 1 t) (iblk2 V c 2 t)).2.2 Set.univ _)
      isplitl [H0]; · iexact H0
      isplitl [H1]; · iexact H1
      isplitl [H2]; · iexact H2
      isplitl [H3]; · iexists _; iexact H3
      isplitl [HS0]; · iexists _; iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover2_A_0 c _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_A_3 c _ _ _ _ _ _ _ _ _ _ _ _ _ _ _)
  · by_cases hz : t.val = 0
    · exfalso; have hN : t.val < 256 := lt_of_lt_of_eq t.isLt (show cfg2.N = 256 from N_2); omega
    · rw [PhiS_castSucc2 V c t, PhiS_pos2 V c _ _ hz]
      rw [outsAt2_B V c t h0, outAt2_B V c t h0]
      unfold sout2_B_0 out2_B_3
      iintro ⟨⟨HS0, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover2_B_0 c _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_B_3 c _ _ _ _ _ _ _ _ _ _ _ _ _ _ _ _)

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- What the launch hands the region (`ΦA`) is the invariant before the first point. -/
theorem hin2 (c : Dev nD) : Pipeline.ΦA spec2 c ⊢ (dat2 V c).Φ 0 := by
  rw [show (dat2 V c).Φ 0 = PhiS2 V c 0 (Nat.zero_le _) from rfl, PhiS_zero2 V c 0 _ rfl]
  try exact Idealize.SL.BI.Entails.refl _

/-- After any point but the first the invariant gives `ΦA` back: the carried scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS_pos2 V c _ _ ht, PhiA2_eq]
  iintro ⟨HS0, Hg⟩
  isplitl [HS0]
  · iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 256 := N_2; omega)

end Cert.KernelIdeal.Hand

end
-- ==== Proof.KernelIdealLaunch.lean ====
/- The launch: the buffers at every boundary of @main, the regions as segments, and the run. -/
module

public import proofs.«01_k».proof.Proof.Gen.KernelIdeal.Launch
public import proofs.«01_k».proof.Proof.Gen.KernelIdeal.Regions
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.KernelIdealFold
public import proofs.«01_k».proof.Proof.KernelIdealScan
public import proofs.«01_k».proof.Proof.KernelIdealReplay

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1]

/-- The first host stretch writes no argument. -/
theorem hostOps0_args : ∀ a ∈ argRefs, a ∉ hostOps0_W := ListAll.forall_mem_of_all_decide (by decide +kernel)
/-- The last host stretch writes no argument. -/
theorem hostOps3_args : ∀ a ∈ argRefs, a ∉ hostOps3_W := ListAll.forall_mem_of_all_decide (by decide +kernel)

/-- Core `c`'s buffers at launch. -/
abbrev W0 : Dev nD → Valuation τ sig (Elt F) := fun c b => (s₀ m ρ).mem ((c : Dev nD), b)
/-- The arguments at launch. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments are still as launched. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what its write-backs leave, every other buffer as entered. -/
def W2 (c : Dev nD) : Valuation τ sig (Elt F) :=
  Pipeline.withArrays spec0 c (W1 m ρ c) fun w => (dat0 (V1 m ρ) c).arrAt w cfg0.N
/-- Each of the region's arrays holds at exit what its write-backs leave. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- A buffer that is none of the region's arrays is as entered. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's output arrays keeps its entry contents across it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's. -/
theorem argsIn0 : ∀ a ∈ argRefs, ∀ w : Fin cfg0.W, Pipeline.arrRef spec0 w = a → (cfg0.win w).isOut = false :=
  ListAll.forall_mem_of_all_decide (by decide +kernel)
/-- The arguments are still as launched. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references. -/
abbrev V2 : (c : Dev nD) → (b : Ref sig .tc) → Buf (Elt F) ((c : Thread nD τ).loc b) := fun c b => W2 m ρ c b
/-- At region 0's exit each of its arrays holds what the pipeline leaves, -/
theorem hF0 (c : Dev nD) (w : Fin cfg0.W) : (dat0 (V1 m ρ) c).arrAt w cfg0.N = V2 m ρ c (Pipeline.arrRef spec0 w) :=
  (W2_arr m ρ c w).symm
/-- and every other buffer what it held at entry. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what its write-backs leave, every other buffer as entered. -/
def W3 (c : Dev nD) : Valuation τ sig (Elt F) :=
  Pipeline.withArrays spec1 c (W2 m ρ c) fun w => (dat1 (V2 m ρ) c).arrAt w cfg1.N
/-- Each of the region's arrays holds at exit what its write-backs leave. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- A buffer that is none of the region's arrays is as entered. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's output arrays keeps its entry contents across it. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's. -/
theorem argsIn1 : ∀ a ∈ argRefs, ∀ w : Fin cfg1.W, Pipeline.arrRef spec1 w = a → (cfg1.win w).isOut = false :=
  ListAll.forall_mem_of_all_decide (by decide +kernel)
/-- The arguments are still as launched. -/
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references. -/
abbrev V3 : (c : Dev nD) → (b : Ref sig .tc) → Buf (Elt F) ((c : Thread nD τ).loc b) := fun c b => W3 m ρ c b
/-- At region 1's exit each of its arrays holds what the pipeline leaves, -/
theorem hF1 (c : Dev nD) (w : Fin cfg1.W) : (dat1 (V2 m ρ) c).arrAt w cfg1.N = V3 m ρ c (Pipeline.arrRef spec1 w) :=
  (W3_arr m ρ c w).symm
/-- and every other buffer what it held at entry. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what its write-backs leave, every other buffer as entered. -/
def W4 (c : Dev nD) : Valuation τ sig (Elt F) :=
  Pipeline.withArrays spec2 c (W3 m ρ c) fun w => (dat2 (V3 m ρ) c).arrAt w cfg2.N
/-- Each of the region's arrays holds at exit what its write-backs leave. -/
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
/-- A buffer that is none of the region's arrays is as entered. -/
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's output arrays keeps its entry contents across it. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's. -/
theorem argsIn2 : ∀ a ∈ argRefs, ∀ w : Fin cfg2.W, Pipeline.arrRef spec2 w = a → (cfg2.win w).isOut = false :=
  ListAll.forall_mem_of_all_decide (by decide +kernel)
/-- The arguments are still as launched. -/
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references. -/
abbrev V4 : (c : Dev nD) → (b : Ref sig .tc) → Buf (Elt F) ((c : Thread nD τ).loc b) := fun c b => W4 m ρ c b
/-- At region 2's exit each of its arrays holds what the pipeline leaves, -/
theorem hF2 (c : Dev nD) (w : Fin cfg2.W) : (dat2 (V3 m ρ) c).arrAt w cfg2.N = V4 m ρ c (Pipeline.arrRef spec2 w) :=
  (W4_arr m ρ c w).symm
/-- and every other buffer what it held at entry. -/
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After `hostOps3`: what the launch ends with. -/
abbrev W5 : Dev nD → Valuation τ sig (Elt F) := fun c => StableHlo.after hostOps3 (W4 m ρ c)
/-- The arguments end as launched. -/
theorem W5_args (c : Dev nD) : ∀ a ∈ argRefs, W5 m ρ c (Proc.devRef .tc a) = m ((c : Thread nD τ).loc a) :=
  fun a ha => (StableHlo.after_of_writes_sub hostOps3 _ hostOps3_writes (hostOps3_args a ha)).trans (W4_args m ρ c a ha)
/-- This argument ends as launched. -/
theorem W5_main_arg0 (c : Dev nD) : W5 m ρ c (Proc.devRef .tc main_arg0) = m ((c : Thread nD τ).loc main_arg0) :=
  W5_args m ρ c main_arg0 (by decide)
/-- This argument ends as launched. -/
theorem W5_main_arg1 (c : Dev nD) : W5 m ρ c (Proc.devRef .tc main_arg1) = m ((c : Thread nD τ).loc main_arg1) :=
  W5_args m ρ c main_arg1 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

-- the library's lemmas are stated over a pinned configuration, which unification must unfold
set_option backward.isDefEq.respectTransparency.types false in
/-- Region 0 as a segment: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over a pinned configuration, which unification must unfold
set_option backward.isDefEq.respectTransparency.types false in
/-- Region 1 as a segment: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over a pinned configuration, which unification must unfold
set_option backward.isDefEq.respectTransparency.types false in
/-- Region 2 as a segment: entered from every unscoped buffer at `W3`, left at `W4`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec2 c ⊢ (pdats m ρ 2 c).Φ 0 := hin2 (V3 m ρ) c
    unfold Pipeline.ΦA at h
    iintro ⟨Hp, -, Hr⟩
    iapply h
    isplitl [Hr]; · iexact Hr
    iexact Hp
  hout c := by
    have h : (pdats m ρ 2 c).Φ (Fin.last _) ⊢ Pipeline.ΦA spec2 c := hout2 (V3 m ρ) c
    unfold Pipeline.ΦA at h
    rw [Pipeline.ownSems0_none]
    iintro H
    ihave H2 := h $$ H
    icases H2 with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
/-- @main is the run of the segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- the launch theorem's implicit arguments are found by unification, which must unfold plain definitions
set_option backward.isDefEq.respectTransparency.types false in
/-- The launch: from any memory with zero counters every fair execution of @main terminates without a fault, and every final
    state has the result at the last boundary's contents, the arguments as launched, and every semaphore counter at zero. -/
theorem run : θ_run defs (onTc (τ := τ) (main (F := F))) ⟨m, fun _ => 0, ρ⟩ (fun r => (∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨h c _ (mem_uc main_v0 (by decide)),
       (h c _ (mem_uc main_arg0 (by decide))).trans (W5_main_arg0 m ρ c),
       (h c _ (mem_uc main_arg1 (by decide))).trans (W5_main_arg1 m ρ c)⟩), funext fun g => hz g (.inr (no_unscoped g.2))⟩)

end Cert.KernelIdeal.Hand

end
-- ==== Proof.Frames.lean ====
/- The three runs as the claims state them — terminating, the arguments kept, every semaphore at zero — and the named
   constants. -/
module

public import proofs.«01_k».proof.Defs
public import proofs.«01_k».proof.Proof.KernelLaunch
public import proofs.«01_k».proof.Proof.KernelIdealLaunch
public import proofs.«01_k».proof.Proof.Gen.ReferenceIdeal.Run

@[expose] public section

noncomputable section

namespace Cert.Proof

open Idealize.ShloMosaic Idealize.SL.Sem

/-- The kernel as written ends with its arguments kept and every semaphore at zero. -/
theorem quiescent_kernel : Cert.quiescent_Kernel (hKernel := Cert.Kernel.Gen.facts) := fun m g _ =>
  (θ_run Cert.Kernel.defs _ _).mono (fun _ h => ⟨fun c => (h.1 c).2, h.2⟩) (Cert.Kernel.Hand.run m g)

/-- The idealized kernel ends with its arguments kept and every semaphore at zero. -/
theorem quiescent_kernelIdeal : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Hand.run m g)

/-- The reference ends with its arguments kept; it has no semaphore. -/
theorem quiescent_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

/-- The named constants stand for the values the table gives them. -/
theorem preserves : Cert.preserves_Kernel_KernelIdeal :=
  ⟨IdealRules.named_const.statement Cert.KernelIdeal.κ "d" .f32 _ _ rfl,
   IdealRules.named_const.statement Cert.KernelIdeal.κ "a" .f32 _ _ rfl,
   IdealRules.named_const.statement Cert.KernelIdeal.κ "d" .f32 _ _ rfl⟩

end Cert.Proof

end
-- ==== Proof.Note.lean ====
/- One note as a word: the key it strikes, and the real number it adds to that key's heat. The scalar operations by which
   the kernel and the reference compute both are read here. -/
module

public import Idealize.ShloMosaic.Lib.Pointwise

@[expose] public section

noncomputable section

namespace Cert.Heat

open Idealize.ShloMosaic

/-- The key of a note: its remainder on division by twelve, taken between zero and eleven. -/
def key (x : BitVec 32) : BitVec 32 := if (x.srem 12#32).slt 0#32 then x.srem 12#32 + 12#32 else x.srem 12#32

/-- What the note `x` adds to key `r`: one where it strikes that key and is above the mark for no note, else zero. -/
def note (x : BitVec 32) (r : ℕ) : ℝ := if key x = BitVec.ofNat 32 r ∧ (4294957296#32).slt x = true then 1 else 0

/-- The remainder by twelve meets no corner of the division, on any unit. -/
theorem remsi_twelve (u : ArithUnit) (x : BitVec 32) : IntOp.remsi u x 12#32 = x.srem 12#32 := by
  unfold IntOp.remsi
  rw [if_neg]
  rintro (h | ⟨-, h⟩) <;> exact absurd h (by decide)

/-- The sign adjustment, from the remainder's sign and its being nonzero. -/
theorem adjust (r : BitVec 32) :
    Scalar.select (IntOp.andi (IntOp.cmpi .slt r 0#32) (IntOp.cmpi .ne r 0#32)) (IntOp.addi r 12#32) r
      = if r.slt 0#32 then r + 12#32 else r := by
  by_cases h : r.slt 0#32 = true
  · have h0 : r ≠ 0#32 := by rintro rfl; exact absurd h (by decide)
    have h1 : (r != 0#32) = true := by simpa using h0
    simp [Scalar.select, IntOp.andi, IntOp.cmpi, IntOp.addi, h, h1]
  · have h' : r.slt 0#32 = false := by simpa using h
    simp [Scalar.select, IntOp.andi, IntOp.cmpi, h']

/-- The kernel's word for the key: the divisor chosen by a comparison of constants, the signs compared by exclusive or. -/
theorem key_kernel (x : BitVec 32) :
    Scalar.select
      (IntOp.andi
        (IntOp.xori (IntOp.cmpi .slt (IntOp.remsi .vector x (Scalar.select (Scalar.cmpi .eq 12#32 0#32) 1#32 12#32)) 0#32)
          (Scalar.cmpi .slt (Scalar.select (Scalar.cmpi .eq 12#32 0#32) 1#32 12#32) 0#32))
        (IntOp.cmpi .ne (IntOp.remsi .vector x (Scalar.select (Scalar.cmpi .eq 12#32 0#32) 1#32 12#32)) 0#32))
      (IntOp.addi (IntOp.remsi .vector x (Scalar.select (Scalar.cmpi .eq 12#32 0#32) 1#32 12#32))
        (Scalar.select (Scalar.cmpi .eq 12#32 0#32) 1#32 12#32))
      (IntOp.remsi .vector x (Scalar.select (Scalar.cmpi .eq 12#32 0#32) 1#32 12#32)) = key x := by
  have e : Scalar.select (Scalar.cmpi .eq 12#32 0#32) 1#32 12#32 = 12#32 := by decide
  have e2 : Scalar.cmpi .slt 12#32 0#32 = 0#1 := by decide
  rw [e, e2, remsi_twelve]
  have e3 : ∀ b : BitVec 1, IntOp.xori b 0#1 = b := by decide
  rw [e3, adjust]
  rfl

/-- The reference's word for the key: the signs compared by inequality. -/
theorem key_host (x : BitVec 32) :
    Scalar.select
      (IntOp.andi
        (IntOp.cmpi .ne (IntOp.cmpi .slt (IntOp.remsi .host x (Scalar.select (IntOp.cmpi .eq 12#32 0#32) 1#32 12#32)) 0#32)
          (IntOp.cmpi .slt (Scalar.select (IntOp.cmpi .eq 12#32 0#32) 1#32 12#32) 0#32))
        (IntOp.cmpi .ne (IntOp.remsi .host x (Scalar.select (IntOp.cmpi .eq 12#32 0#32) 1#32 12#32)) 0#32))
      (IntOp.addi (IntOp.remsi .host x (Scalar.select (IntOp.cmpi .eq 12#32 0#32) 1#32 12#32))
        (Scalar.select (IntOp.cmpi .eq 12#32 0#32) 1#32 12#32))
      (IntOp.remsi .host x (Scalar.select (IntOp.cmpi .eq 12#32 0#32) 1#32 12#32)) = key x := by
  have e : Scalar.select (IntOp.cmpi .eq 12#32 0#32) 1#32 12#32 = 12#32 := by decide
  have e2 : IntOp.cmpi .slt 12#32 0#32 = 0#1 := by decide
  rw [e, e2, remsi_twelve]
  have e3 : ∀ b : BitVec 1, IntOp.cmpi .ne b 0#1 = b := by decide
  rw [e3, adjust]
  rfl

/-- A truth value as a float by way of a 32-bit word. -/
theorem sitofp_bit (b : BitVec 1) : (FloatOps.sitofp (F := Ideal) .f32 (BitVec.setWidth 32 b)) = ((if b = 1#1 then 1 else 0 : ℝ) : EReal) := by
  have h : ∀ b : BitVec 1, (BitVec.setWidth 32 b).toInt = if b = 1#1 then 1 else 0 := by decide
  show ((((BitVec.setWidth 32 b).toInt : ℝ)) : EReal) = _
  rw [h]
  split <;> simp

/-- A truth value as a float. -/
theorem uitofp_bit (b : BitVec 1) : (FloatOps.uitofp (F := Ideal) .f32 b) = ((if b = 1#1 then 1 else 0 : ℝ) : EReal) := by
  have h : ∀ b : BitVec 1, b.toNat = if b = 1#1 then 1 else 0 := by decide
  show (((b.toNat : ℝ)) : EReal) = _
  rw [h]
  split <;> simp

/-- The kernel's increment: the key compared with the row, and the note with the mark, both as one truth value. -/
theorem note_kernel (x : BitVec 32) (r : ℕ) :
    FloatOps.sitofp (F := Ideal) .f32 (BitVec.setWidth 32 (IntOp.andi (IntOp.cmpi .eq (BitVec.ofNat 32 r) (key x)) (IntOp.cmpi .sgt x 4294957296#32)))
      = (note x r : EReal) := by
  rw [sitofp_bit]
  unfold note
  congr 1
  have h : ∀ p q : Bool, (IntOp.andi (BitVec.ofBool p) (BitVec.ofBool q) = 1#1) ↔ (p = true ∧ q = true) := by decide
  refine if_congr ?_ rfl rfl
  show IntOp.andi (BitVec.ofBool (BitVec.ofNat 32 r == key x)) (BitVec.ofBool ((4294957296#32).slt x)) = 1#1 ↔ _
  rw [h, beq_iff_eq, eq_comm]

/-- The reference's increment: the one-hot entry times the mask. -/
theorem note_host (x : BitVec 32) (r : ℕ) :
    FloatOps.uitofp (F := Ideal) .f32 (IntOp.cmpi .eq (key x) (BitVec.ofNat 32 r)) * FloatOps.uitofp (F := Ideal) .f32 (IntOp.cmpi .sgt x 4294957296#32)
      = (note x r : EReal) := by
  have h : ∀ p : Bool, (BitVec.ofBool p = 1#1) ↔ (p = true) := by decide
  have h1 : (IntOp.cmpi .eq (key x) (BitVec.ofNat 32 r) = 1#1) ↔ key x = BitVec.ofNat 32 r := by
    show BitVec.ofBool (key x == BitVec.ofNat 32 r) = 1#1 ↔ _
    rw [h, beq_iff_eq]
  have h2 : (IntOp.cmpi .sgt x 4294957296#32 = 1#1) ↔ (4294957296#32).slt x = true := by
    show BitVec.ofBool ((4294957296#32).slt x) = 1#1 ↔ _
    rw [h]
  erw [uitofp_bit, uitofp_bit]
  rw [← EReal.coe_mul]
  unfold note
  congr 1
  rw [if_congr h1 rfl rfl, if_congr h2 rfl rfl]
  by_cases a : key x = BitVec.ofNat 32 r <;> by_cases b : (4294957296#32).slt x = true
  · rw [if_pos a, if_pos b, if_pos ⟨a, b⟩, mul_one]
  · rw [if_neg b, if_neg (fun e : _ ∧ _ => b e.2), mul_zero]
  · rw [if_neg a, if_neg (fun e : _ ∧ _ => a e.1), zero_mul]
  · rw [if_neg a, if_neg (fun e : _ ∧ _ => a e.1), zero_mul]

end Cert.Heat

end
-- ==== Proof.Heat.lean ====
/- The mathematics of the key heats over the real numbers. One key's heat is multiplied by a decay at every note, raised
   by one where the note strikes the key, and held at five. A stretch of notes acts on the heat as `h ↦ min (a·h + b) c`;
   stretches compose; and folding them in any grouping gives the heat itself. -/
module

public import Mathlib.Data.Real.Basic
public import Mathlib.Tactic.Ring
public import Mathlib.Tactic.Linarith
public import Mathlib.Tactic.Positivity

@[expose] public section

noncomputable section

namespace Cert.Heat

/-- The heat after `t` notes: zero before the first, then decayed, raised by the note's increment and held at five. -/
def heat (d : ℝ) (inc : ℕ → ℝ) : ℕ → ℝ
  | 0 => 0
  | t + 1 => min (heat d inc t * d + inc t) 5

/-- The decayed sum of the first `k` increments, with no ceiling. -/
def lin (d : ℝ) (inc : ℕ → ℝ) : ℕ → ℝ
  | 0 => 0
  | k + 1 => lin d inc k * d + inc k

/-- The ceiling of the first `k` notes, from the value `big` that stands for no ceiling. -/
def cap (d big : ℝ) (inc : ℕ → ℝ) : ℕ → ℝ
  | 0 => big
  | k + 1 => min (cap d big inc k * d + inc k) 5

/-- The heat never passes five. -/
theorem heat_le (d : ℝ) (inc : ℕ → ℝ) (t : ℕ) : heat d inc t ≤ 5 := by
  cases t with
  | zero => show (0 : ℝ) ≤ 5; norm_num
  | succ t => exact min_le_right _ _

/-- The heat depends on the increments of the notes already played only. -/
theorem heat_congr (d : ℝ) {inc inc' : ℕ → ℝ} (t : ℕ) (h : ∀ u < t, inc u = inc' u) : heat d inc t = heat d inc' t := by
  induction t with
  | zero => rfl
  | succ t ih =>
    show min (heat d inc t * d + inc t) 5 = min (heat d inc' t * d + inc' t) 5
    rw [ih fun u hu => h u (Nat.lt_succ_of_lt hu), h t (Nat.lt_succ_self t)]

/-- `k` notes after time `t` act on the heat as multiplication by `d ^ k`, addition of their decayed sum, and the
    minimum with their ceiling. -/
theorem heat_add (d big : ℝ) (hd : 0 ≤ d) (hbig : 5 ≤ big) (inc : ℕ → ℝ) (t k : ℕ) :
    heat d inc (t + k) = min (d ^ k * heat d inc t + lin d (fun u => inc (t + u)) k) (cap d big (fun u => inc (t + u)) k) := by
  induction k with
  | zero =>
    show heat d inc t = min (d ^ 0 * heat d inc t + 0) big
    rw [pow_zero, one_mul, add_zero, min_eq_left (le_trans (heat_le d inc t) hbig)]
  | succ k ih =>
    show min (heat d inc (t + k) * d + inc (t + k)) 5
      = min (d ^ (k + 1) * heat d inc t + (lin d (fun u => inc (t + u)) k * d + inc (t + k)))
          (min (cap d big (fun u => inc (t + u)) k * d + inc (t + k)) 5)
    rw [ih, min_mul_of_nonneg _ _ hd, ← min_add_add_right, min_assoc]
    congr 1
    rw [pow_succ]; ring

/-- Two affine maps with ceilings compose to one of the same form. -/
theorem min_comp (a a' b b' c c' h : ℝ) (ha : 0 ≤ a) :
    min (a * a' * h + (a * b' + b)) (min (a * c' + b) c) = min (a * min (a' * h + b') c' + b) c := by
  rw [mul_min_of_nonneg _ _ ha, ← min_add_add_right, min_assoc]
  congr 1
  ring

/-- The window of the last `m` stretches before and with stretch `n`, of `len` notes each: the map `(a, b, c)` takes the
    heat at the window's start to the heat at the end of stretch `n`. A window that would start before the first note
    starts at it. -/
def Window (s : ℕ → ℝ) (len m n : ℕ) (a b c : ℝ) : Prop :=
  0 ≤ a ∧ min (a * s (len * (n + 1 - m)) + b) c = s (len * (n + 1))

/-- One stretch is a window of length one. -/
theorem window_one {d big : ℝ} (hd : 0 ≤ d) (hbig : 5 ≤ big) (inc : ℕ → ℝ) (len n : ℕ) :
    Window (heat d inc) len 1 n (d ^ len) (lin d (fun u => inc (len * n + u)) len) (cap d big (fun u => inc (len * n + u)) len) := by
  refine ⟨pow_nonneg hd _, ?_⟩
  rw [Nat.add_sub_cancel, ← heat_add d big hd hbig]
  rfl

/-- A window over the stretches up to `n`, after a window over those just before it, is a window of twice the length. -/
theorem window_double {s : ℕ → ℝ} {len m n : ℕ} {a b c a' b' c' : ℝ} (hn : m ≤ n)
    (h : Window s len m n a b c) (h' : Window s len m (n - m) a' b' c') :
    Window s len (2 * m) n (a * a') (a * b' + b) (min (a * c' + b) c) := by
  refine ⟨mul_nonneg h.1 h'.1, ?_⟩
  rw [min_comp _ _ _ _ _ _ _ h.1]
  have e : n + 1 - 2 * m = n - m + 1 - m := by omega
  have e' : n - m + 1 = n + 1 - m := by omega
  rw [e, h'.2, e', h.2]

/-- A window that already reaches the first note is a window of any greater length. -/
theorem window_keep {s : ℕ → ℝ} {len m n : ℕ} {a b c : ℝ} (hn : n < m) (h : Window s len m n a b c) :
    Window s len (2 * m) n a b c := by
  refine ⟨h.1, ?_⟩
  have e : n + 1 - 2 * m = n + 1 - m := by omega
  rw [e]; exact h.2

/-- A window over every stretch up to `n`, at the heat zero it starts from, is the heat at the end of stretch `n`. -/
theorem window_all {d : ℝ} {inc : ℕ → ℝ} {len m n : ℕ} {a b c : ℝ} (hn : n < m) (h : Window (heat d inc) len m n a b c) :
    min b c = heat d inc (len * (n + 1)) := by
  have h2 := h.2
  have e : n + 1 - m = 0 := by omega
  rw [e, Nat.mul_zero] at h2
  rw [← h2]
  show min b c = min (a * 0 + b) c
  rw [mul_zero, zero_add]

end Cert.Heat

end
-- ==== Proof.KernelNote.lean ====
/- The fold's payloads at one entry: the zero start, the open start, and one note's step of the pair. -/
module

public import proofs.«01_k».proof.Proof.Gen.KernelIdeal.Skeleton
public import proofs.«01_k».proof.Proof.Note
public import proofs.«01_k».proof.Proof.Heat
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe
open Idealize.SL.Sem

/-- The decay as a real number. -/
def dR : ℝ := 3999 / 4001

/-- The decay is not negative. -/
theorem dR_nonneg : 0 ≤ dR := by unfold dR; norm_num

/-- The named decay is the quotient. -/
theorem named_d (w : BitVec 32) : (Named.named (F := Ideal) κ "d" (φ := .f32) w) = (dR : EReal) := rfl

/-- The cap is five. -/
theorem five : (Ideal.ofBits FTy.f32 1084227584#32 : EReal) = ((5 : ℝ) : EReal) := by
  simp [Ideal.ofBits, Ideal.ieee, -EReal.coe_mul]; norm_num

/-- The open cap, a number no smaller than five. -/
def bigR : ℝ := 13234890 * 2 ^ 76

/-- The open cap's word. -/
theorem big_val : (Ideal.ofBits FTy.f32 0x7149F2CA#32 : EReal) = (bigR : EReal) := by
  simp [Ideal.ofBits, Ideal.ieee, bigR, -EReal.coe_mul]

/-- The open cap is not below five. -/
theorem big_ge : 5 ≤ bigR := by unfold bigR; norm_num

/-- The fold's linear part starts at zero. -/
theorem k0_pay1_at (r : Fin 16) (l : Fin 128) : k0_pay1 (F := Ideal) (ix2 r l) = ((0 : ℝ) : EReal) := by
  pointwise [k0_pay1]
  rfl

/-- The fold's cap starts at the open cap. -/
theorem k0_pay2_at (r : Fin 16) (l : Fin 128) : k0_pay2 (F := Ideal) (ix2 r l) = (bigR : EReal) := by
  pointwise [k0_pay2]
  exact big_val

/-- One row of notes as increments. -/
theorem k0_pay3_at (v : IVec S1x128 32) (r : Fin 16) (l : Fin 128) :
    k0_pay3 (F := Ideal) v (ix2 r l) = (Heat.note (v (ix2 0 l)) r : EReal) := by
  pointwise [k0_pay3]
  rw [Heat.key_kernel]
  exact Heat.note_kernel _ _

/-- One step of the linear part. -/
theorem k0_pay4_at (b : FVec Ideal S16x128 .f32) (v : IVec S1x128 32) (r : Fin 16) (l : Fin 128) (x : ℝ)
    (hb : b (ix2 r l) = (x : EReal)) :
    k0_pay4 (F := Ideal) b v (ix2 r l) = ((x * dR + Heat.note (v (ix2 0 l)) r : ℝ) : EReal) := by
  pointwise [k0_pay4]
  rw [hb, k0_pay3_at, named_d]
  push_cast
  rfl

/-- One step of the cap. -/
theorem k0_pay5_at (b : FVec Ideal S16x128 .f32) (v : IVec S1x128 32) (r : Fin 16) (l : Fin 128) (x : ℝ)
    (hb : b (ix2 r l) = (x : EReal)) :
    k0_pay5 (F := Ideal) b v (ix2 r l) = ((min (x * dR + Heat.note (v (ix2 0 l)) r) 5 : ℝ) : EReal) := by
  pointwise [k0_pay5]
  rw [hb, k0_pay3_at, named_d, five]
  push_cast
  rfl

end Cert.KernelIdeal.Hand

end
-- ==== Proof.FoldValue.lean ====
/- Region 0's value: what one block of notes leaves in the two output blocks, entry by entry. -/
module

public import proofs.«01_k».proof.Proof.KernelIdealFold
public import proofs.«01_k».proof.Proof.KernelNote
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window BodyObligation cellOf)

/-- The loop makes 512 trips. -/
theorem trips0 : k0_t1_loop.trips = 512 := by decide +kernel

section
variable (c : Dev nD) (i : grid0.Coords) (arg1 : Memref sig .tc .vmem S512x128 .i32) (harg1 : arg1.IsWhole)
  (arg2 : Memref sig .tc .vmem S16x128 .f32) (harg2 : arg2.IsWhole) (arg3 : Memref sig .tc .vmem S16x128 .f32) (harg3 : arg3.IsWhole)
  (x0 : Vec Ideal S512x128 .i32)

/-- The row that trip `k` loads, read off the block. -/
theorem trip_at (𝒱 : Variants) (bd : Option 𝒱.V) (k : Fin k0_t1_loop.trips) (acc : FVec Ideal S16x128 .f32 × FVec Ideal S16x128 .f32) :
    ∃ v : IVec S1x128 32, (∀ l : Fin 128, v (ix2 0 l) = x0 (ix2 ⟨k.val, trips0 ▸ k.isLt⟩ l))
      ∧ tripR_k0_t1 (F := Ideal) 𝒱 c bd i arg1 harg1 arg2 harg2 arg3 harg3 (harg1.unread x0) k acc = (k0_pay4 acc.1 v, k0_pay5 acc.2 v) := by
  unfold tripR_k0_t1 trip_k0_t1
  dsimp only
  refine ⟨_, ?_, rfl⟩
  intro l
  rw [View.readAt_eq_ld, harg1.read_unread]
  pointwise [k0_off1]
  have h : ∀ k : Fin 512, BitVec.toNat (Scalar.indexCast (Scf.iv 0#32 1#32 k.val)) = k.val := by decide +kernel
  exact congrArg (fun u : Fin 512 => x0 (ix2 u l)) (Fin.ext (h ⟨k.val, trips0 ▸ k.isLt⟩))

/-- Before trip `k` the carried pair holds, entry by entry, the decayed sum of the first `k` notes and their ceiling. -/
theorem st_at (𝒱 : Variants) (bd : Option 𝒱.V) (r : Fin 16) (l : Fin 128) (X : ℕ → BitVec 32)
    (hX : ∀ u : Fin 512, x0 (ix2 u l) = X u) : ∀ k : ℕ, k ≤ 512 →
      (st_k0_t1 (F := Ideal) 𝒱 c bd i arg1 harg1 arg2 harg2 arg3 harg3 (harg1.unread x0) (k0_pay1, k0_pay2) k).1 (ix2 r l)
          = (Heat.lin dR (fun u => Heat.note (X u) r) k : EReal)
        ∧ (st_k0_t1 (F := Ideal) 𝒱 c bd i arg1 harg1 arg2 harg2 arg3 harg3 (harg1.unread x0) (k0_pay1, k0_pay2) k).2 (ix2 r l)
          = (Heat.cap dR bigR (fun u => Heat.note (X u) r) k : EReal)
  | 0, _ => by
    rw [st_k0_t1_zero]
    exact ⟨k0_pay1_at r l, k0_pay2_at r l⟩
  | k + 1, hk => by
    obtain ⟨h1, h2⟩ := st_at 𝒱 bd r l X hX k (by omega)
    have hkt : k < k0_t1_loop.trips := by rw [trips0]; omega
    obtain ⟨v, hv, e⟩ := trip_at c i arg1 harg1 arg2 harg2 arg3 harg3 x0 𝒱 bd ⟨k, hkt⟩
      (st_k0_t1 (F := Ideal) 𝒱 c bd i arg1 harg1 arg2 harg2 arg3 harg3 (harg1.unread x0) (k0_pay1, k0_pay2) k)
    have hs := st_k0_t1_succ (F := Ideal) 𝒱 c bd i arg1 harg1 arg2 harg2 arg3 harg3 (harg1.unread x0) (k0_pay1, k0_pay2) ⟨k, hkt⟩
    rw [show k + 1 = (⟨k, hkt⟩ : Fin k0_t1_loop.trips).val + 1 from rfl, hs, e]
    have hn : v (ix2 0 l) = X k := (hv l).trans (hX ⟨k, by omega⟩)
    constructor
    · dsimp only
      rw [k0_pay4_at _ v r l _ h1, hn]
      rfl
    · dsimp only
      rw [k0_pay5_at _ v r l _ h2, hn]
      rfl

/-- The first output's block after the body. -/
theorem out0_1_at (r : Fin 16) (l : Fin 128) (X : ℕ → BitVec 32) (hX : ∀ u : Fin 512, x0 (ix2 u l) = X u) :
    out0_A_1 (F := Ideal) c i arg1 harg1 arg2 harg2 arg3 harg3 x0 (ix2 r l)
      = (Heat.lin dR (fun u => Heat.note (X u) r) 512 : EReal) := by
  have hz : (![0, 0] : Fin 2 → Nat) = fun _ => 0 := funext fun a => by fin_cases a <;> rfl
  unfold out0_A_1
  rw [View.read_writes_eq_canon _ _ _ (cover0_A_1 c i arg1 harg1 arg2 harg2 arg3 harg3 x0)]
  unfold kernelRun0_A
  dsimp only
  sl_unfold_words
  rw [View.canon_unit_zero hz]
  rw [show Scf.trips (0#32) (Scalar.addi 0#32 512#32) 1#32 = 512 from trips0]
  exact (st_at c i arg1 harg1 arg2 harg2 arg3 harg3 x0 _ _ r l X hX 512 le_rfl).1

/-- The second output's block after the body. -/
theorem out0_2_at (r : Fin 16) (l : Fin 128) (X : ℕ → BitVec 32) (hX : ∀ u : Fin 512, x0 (ix2 u l) = X u) :
    out0_A_2 (F := Ideal) c i arg1 harg1 arg2 harg2 arg3 harg3 x0 (ix2 r l)
      = (Heat.cap dR bigR (fun u => Heat.note (X u) r) 512 : EReal) := by
  have hz : (![0, 0] : Fin 2 → Nat) = fun _ => 0 := funext fun a => by fin_cases a <;> rfl
  unfold out0_A_2
  rw [View.read_writes_eq_canon _ _ _ (cover0_A_2 c i arg1 harg1 arg2 harg2 arg3 harg3 x0)]
  unfold kernelRun0_A
  dsimp only
  sl_unfold_words
  rw [View.canon_unit_zero hz]
  rw [show Scf.trips (0#32) (Scalar.addi 0#32 512#32) 1#32 = 512 from trips0]
  exact (st_at c i arg1 harg1 arg2 harg2 arg3 harg3 x0 _ _ r l X hX 512 le_rfl).2

end

end Cert.KernelIdeal.Hand

end
-- ==== Proof.FoldArray.lean ====
/- Region 0's arrays: every chunk's decayed sum and ceiling, whole arrays from the blocks of 128 chunks. -/
module

public import proofs.«01_k».proof.Proof.FoldValue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window BodyObligation cellOf)

variable (V : (c : Dev nD) → (b : Ref sig .tc) → Buf (Elt Ideal) ((c : Thread nD τ).loc b))

/-- The blocks of region 0 at point `t`: all rows, the `t`-th 128 columns. -/
theorem idx0 : ∀ t : Fin cfg0.N, win0_0.index t = ![0, t.val] ∧ win0_1.index t = ![0, t.val] ∧ win0_2.index t = ![0, t.val] :=
  (by decide +kernel : ∀ t : Fin grid0.N, _)

/-- Key `r`'s increments within chunk `n`. -/
def chunkInc (X : ℕ → BitVec 32) (r n : ℕ) : ℕ → ℝ := fun u => Heat.note (X (512 * n + u)) r

/-- A block of notes: column `l` of block `t` is chunk `128 t + l`. -/
theorem iblk0_at (c : Dev nD) (X : ℕ → BitVec 32)
    (hx : ∀ (u : Fin 512) (n : Fin 1024), V c main_call0_v1 (ix2 u n) = X (512 * n.val + u.val)) (t : Fin cfg0.N) (u : Fin 512) (l : Fin 128) :
    iblk0 V c 0 t (ix2 u l) = X (512 * (t.val * 128 + l.val) + u.val) := by
  have ht : t.val < 8 := lt_of_lt_of_eq t.isLt N_0
  rw [← hx u ⟨t.val * 128 + l.val, by omega⟩]
  blk_ext [iblk0, idx0 t]

/-- The decayed sums of all chunks. -/
theorem arr0_1 (c : Dev nD) (X : ℕ → BitVec 32)
    (hx : ∀ (u : Fin 512) (n : Fin 1024), V c main_call0_v1 (ix2 u n) = X (512 * n.val + u.val)) :
    (dat0 V c).arrAt 1 cfg0.N = fun j : S16x1024.Idx => ((Heat.lin dR (chunkInc X (j 0).val (j 1).val) 512 : ℝ) : EReal) := by
  refine (dat0 V c).arrAt_eq_of_covers 1 _ (by decide +kernel) fun t _ y => ?_
  blk_simp
  rw [after0_1]
  unfold outsAt0
  dsimp only
  rw [(idx0 t).2.1, show y = ix2 (n0 := 16) (n1 := 128) (y 0) (y 1) from funext fun a => by fin_cases a <;> rfl]
  rw [out0_1_at _ _ _ _ _ _ _ _ _ (y 0) (y 1) (fun u => X (512 * (t.val * 128 + (y 1).val) + u))
    (fun u => iblk0_at V c X hx t u (y 1))]
  simp
  rfl

/-- The ceilings of all chunks. -/
theorem arr0_2 (c : Dev nD) (X : ℕ → BitVec 32)
    (hx : ∀ (u : Fin 512) (n : Fin 1024), V c main_call0_v1 (ix2 u n) = X (512 * n.val + u.val)) :
    (dat0 V c).arrAt 2 cfg0.N = fun j : S16x1024.Idx => ((Heat.cap dR bigR (chunkInc X (j 0).val (j 1).val) 512 : ℝ) : EReal) := by
  refine (dat0 V c).arrAt_eq_of_covers 2 _ (by decide +kernel) fun t _ y => ?_
  blk_simp
  rw [after0_2]
  unfold outsAt0
  dsimp only
  rw [(idx0 t).2.2, show y = ix2 (n0 := 16) (n1 := 128) (y 0) (y 1) from funext fun a => by fin_cases a <;> rfl]
  rw [out0_2_at _ _ _ _ _ _ _ _ _ (y 0) (y 1) (fun u => X (512 * (t.val * 128 + (y 1).val) + u))
    (fun u => iblk0_at V c X hx t u (y 1))]
  simp
  rfl

end Cert.KernelIdeal.Hand

end
-- ==== Proof.ScanValue.lean ====
/- Region 1's value: ten doublings of a window over the chunks, then the heat with which each chunk starts. -/
module

public import proofs.«01_k».proof.Proof.KernelIdealScan
public import proofs.«01_k».proof.Proof.FoldArray

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window BodyObligation cellOf)

/-- An array over the sixteen rows and the chunks. -/
abbrev Cols : Type := FVec Ideal S16x1024 .f32

set_option exponentiation.threshold 600 in
/-- The decay of a chunk, as named, is the decay of a step to the 512th power. -/
theorem named_a (w : BitVec 32) : (Named.named (F := Ideal) κ "a" (φ := .f32) w) = ((dR ^ 512 : ℝ) : EReal) := by
  refine congrArg Real.toEReal (?_ : (_ : ℝ) = dR ^ 512)
  unfold dR
  norm_num

/-- A shift to the right along the chunks by the first width, with a fill. -/
def shiftV (So Sp : Shape) (hs : S16x1024.Slices ![0, 0] Sp) (hc : Shape.Concatenates [So, Sp] S16x1024 1) (fill : Ideal .f32) (x : Cols) : Cols :=
  concatenate S16x1024 1 [⟨So, broadcast So fill⟩, ⟨Sp, extractStridedSlice Sp ![0, 0] x hs⟩] hc

/-- What a shift by `o` reads: the fill on the first `o` columns, then the column `o` to the left. -/
def Shifts (o : ℕ) (sh : Ideal .f32 → Cols → Cols) : Prop :=
  ∀ (fill : Ideal .f32) (x : Cols) (r : Fin 16) (n : Fin 1024),
    (n.val < o → sh fill x (ix2 r n) = fill) ∧ (∀ h : o ≤ n.val, sh fill x (ix2 r n) = x (ix2 r ⟨n.val - o, by omega⟩))

/-- The columns' numbers. -/
def colsV : IVec S16x1024 32 := iota .tc S16x1024 32 [1] iota_S16x1024_d1_w32

/-- A choice between two arrays by whether the column's number is at least `o`. -/
def fromV (o : ℕ) (x y : Cols) : Cols := select (cmpi .sge colsV (broadcast S16x1024 (BitVec.ofNat 32 o))) x y

/-- That choice at an entry. -/
theorem fromV_at (o : ℕ) (ho : o ≤ 512) (x y : Cols) (r : Fin 16) (n : Fin 1024) :
    fromV o x y (ix2 r n) = if o ≤ n.val then x (ix2 r n) else y (ix2 r n) := by
  pointwise [fromV, colsV]
  have small : ∀ v : ℕ, v < 1024 → (BitVec.ofNat 32 v).toInt = v := fun v hv => by
    rw [BitVec.toInt_eq_toNat_of_lt (by rw [BitVec.toNat_ofNat]; omega), BitVec.toNat_ofNat, Nat.mod_eq_of_lt (by omega)]
  unfold IntOp.cmpi
  dsimp only
  rw [BitVec.sle_eq_decide, small _ n.isLt, small _ (by omega)]
  by_cases h : o ≤ n.val
  · rw [if_pos h, decide_eq_true (by exact_mod_cast h)]; rfl
  · rw [if_neg h, decide_eq_false (by exact_mod_cast h)]; rfl

/-- One doubling of the slopes. -/
def nextA (sh : Ideal .f32 → Cols → Cols) (o : ℕ) (a : Cols) : Cols :=
  fromV o (mulf a (sh (Named.named κ "d" 0x3F800000#32) a)) a

/-- One doubling of the intercepts. -/
def nextB (sh : Ideal .f32 → Cols → Cols) (o : ℕ) (a b : Cols) : Cols :=
  fromV o (addf (mulf a (sh (Scalar.ofBits .f32 0x00000000#32) b)) b) b

/-- One doubling of the ceilings. -/
def nextC (sh : Ideal .f32 → Cols → Cols) (o : ℕ) (a b c : Cols) : Cols :=
  fromV o (minimumf (addf (mulf a (sh (Scalar.ofBits .f32 0x7149F2CA#32) c)) b) c) c

/-- One doubling. -/
def next (sh : Ideal .f32 → Cols → Cols) (o : ℕ) (t : Cols × Cols × Cols) : Cols × Cols × Cols :=
  (nextA sh o t.1, nextB sh o t.1 t.2.1, nextC sh o t.1 t.2.1 t.2.2)

/-- The three arrays hold, for every row and chunk, a window over `m` chunks that ends there. -/
def Windows (s : ℕ → ℕ → ℝ) (m : ℕ) (t : Cols × Cols × Cols) : Prop :=
  ∀ (r : Fin 16) (n : Fin 1024), ∃ a b c : ℝ, t.1 (ix2 r n) = (a : EReal) ∧ t.2.1 (ix2 r n) = (b : EReal) ∧ t.2.2 (ix2 r n) = (c : EReal)
    ∧ Heat.Window (s r.val) 512 m n.val a b c

/-- One doubling doubles the windows. -/
theorem windows_next {s : ℕ → ℕ → ℝ} {o : ℕ} (ho : o ≤ 512) {sh : Ideal .f32 → Cols → Cols} (hsh : Shifts o sh) {t : Cols × Cols × Cols}
    (h : Windows s o t) : Windows s (2 * o) (next sh o t) := by
  intro r n
  obtain ⟨a, b, c, ha, hb, hc, hw⟩ := h r n
  by_cases hn : o ≤ n.val
  · obtain ⟨a', b', c', ha', hb', hc', hw'⟩ := h r ⟨n.val - o, by omega⟩
    refine ⟨a * a', a * b' + b, min (a * c' + b) c, ?_, ?_, ?_, Heat.window_double hn hw hw'⟩
    · show fromV o _ _ _ = _
      rw [fromV_at o ho, if_pos hn]
      show t.1 (ix2 r n) * sh _ t.1 (ix2 r n) = _
      rw [(hsh _ _ r n).2 hn, ha, ha']
      push_cast; rfl
    · show fromV o _ _ _ = _
      rw [fromV_at o ho, if_pos hn]
      show t.1 (ix2 r n) * sh _ t.2.1 (ix2 r n) + t.2.1 (ix2 r n) = _
      rw [(hsh _ _ r n).2 hn, ha, hb, hb']
      push_cast; rfl
    · show fromV o _ _ _ = _
      rw [fromV_at o ho, if_pos hn]
      show min (t.1 (ix2 r n) * sh _ t.2.2 (ix2 r n) + t.2.1 (ix2 r n)) (t.2.2 (ix2 r n)) = _
      rw [(hsh _ _ r n).2 hn, ha, hb, hc, hc']
      push_cast; rfl
  · have hn' : n.val < o := by omega
    refine ⟨a, b, c, ?_, ?_, ?_, Heat.window_keep hn' hw⟩ <;> (show fromV o _ _ _ = _; rw [fromV_at o ho, if_neg hn]; assumption)

/-- The shift by 1. -/
def sh1 : Ideal .f32 → Cols → Cols := shiftV S16x1 S16x1023 slices_S16x1024_o0_0_S16x1023 concatenates_S16x1_S16x1023_S16x1024_d1

/-- The shift by 2. -/
def sh2 : Ideal .f32 → Cols → Cols := shiftV S16x2 S16x1022 slices_S16x1024_o0_0_S16x1022 concatenates_S16x2_S16x1022_S16x1024_d1

/-- The shift by 4. -/
def sh4 : Ideal .f32 → Cols → Cols := shiftV S16x4 S16x1020 slices_S16x1024_o0_0_S16x1020 concatenates_S16x4_S16x1020_S16x1024_d1

/-- The shift by 8. -/
def sh8 : Ideal .f32 → Cols → Cols := shiftV S16x8 S16x1016 slices_S16x1024_o0_0_S16x1016 concatenates_S16x8_S16x1016_S16x1024_d1

/-- The shift by 16. -/
def sh16 : Ideal .f32 → Cols → Cols := shiftV S16x16 S16x1008 slices_S16x1024_o0_0_S16x1008 concatenates_S16x16_S16x1008_S16x1024_d1

/-- The shift by 32. -/
def sh32 : Ideal .f32 → Cols → Cols := shiftV S16x32 S16x992 slices_S16x1024_o0_0_S16x992 concatenates_S16x32_S16x992_S16x1024_d1

/-- The shift by 64. -/
def sh64 : Ideal .f32 → Cols → Cols := shiftV S16x64 S16x960 slices_S16x1024_o0_0_S16x960 concatenates_S16x64_S16x960_S16x1024_d1

/-- The shift by 128. -/
def sh128 : Ideal .f32 → Cols → Cols := shiftV S16x128 S16x896 slices_S16x1024_o0_0_S16x896 concatenates_S16x128_S16x896_S16x1024_d1

/-- The shift by 256. -/
def sh256 : Ideal .f32 → Cols → Cols := shiftV S16x256 S16x768 slices_S16x1024_o0_0_S16x768 concatenates_S16x256_S16x768_S16x1024_d1

/-- The shift by 512. -/
def sh512 : Ideal .f32 → Cols → Cols := shiftV S16x512 S16x512 slices_S16x1024_o0_0_S16x512 concatenates_S16x512_S16x512_S16x1024_d1

/-- It shifts by 1. -/
theorem sh1_shifts : Shifts 1 sh1 := by
  intro fill x r n
  unfold sh1 shiftV
  constructor
  · intro h
    pointwise
    exact dif_pos h
  · intro h
    pointwise
    exact dif_neg (by omega)

/-- It shifts by 2. -/
theorem sh2_shifts : Shifts 2 sh2 := by
  intro fill x r n
  unfold sh2 shiftV
  constructor
  · intro h
    pointwise
    exact dif_pos h
  · intro h
    pointwise
    exact dif_neg (by omega)

/-- It shifts by 4. -/
theorem sh4_shifts : Shifts 4 sh4 := by
  intro fill x r n
  unfold sh4 shiftV
  constructor
  · intro h
    pointwise
    exact dif_pos h
  · intro h
    pointwise
    exact dif_neg (by omega)

/-- It shifts by 8. -/
theorem sh8_shifts : Shifts 8 sh8 := by
  intro fill x r n
  unfold sh8 shiftV
  constructor
  · intro h
    pointwise
    exact dif_pos h
  · intro h
    pointwise
    exact dif_neg (by omega)

/-- It shifts by 16. -/
theorem sh16_shifts : Shifts 16 sh16 := by
  intro fill x r n
  unfold sh16 shiftV
  constructor
  · intro h
    pointwise
    exact dif_pos h
  · intro h
    pointwise
    exact dif_neg (by omega)

/-- It shifts by 32. -/
theorem sh32_shifts : Shifts 32 sh32 := by
  intro fill x r n
  unfold sh32 shiftV
  constructor
  · intro h
    pointwise
    exact dif_pos h
  · intro h
    pointwise
    exact dif_neg (by omega)

/-- It shifts by 64. -/
theorem sh64_shifts : Shifts 64 sh64 := by
  intro fill x r n
  unfold sh64 shiftV
  constructor
  · intro h
    pointwise
    exact dif_pos h
  · intro h
    pointwise
    exact dif_neg (by omega)

/-- It shifts by 128. -/
theorem sh128_shifts : Shifts 128 sh128 := by
  intro fill x r n
  unfold sh128 shiftV
  constructor
  · intro h
    pointwise
    exact dif_pos h
  · intro h
    pointwise
    exact dif_neg (by omega)

/-- It shifts by 256. -/
theorem sh256_shifts : Shifts 256 sh256 := by
  intro fill x r n
  unfold sh256 shiftV
  constructor
  · intro h
    pointwise
    exact dif_pos h
  · intro h
    pointwise
    exact dif_neg (by omega)

/-- It shifts by 512. -/
theorem sh512_shifts : Shifts 512 sh512 := by
  intro fill x r n
  unfold sh512 shiftV
  constructor
  · intro h
    pointwise
    exact dif_pos h
  · intro h
    pointwise
    exact dif_neg (by omega)

/-- Where the doublings start: the decay of a chunk, and the chunks' sums and ceilings. -/
def start (y0 y1 : Vec Ideal S16x1024 .f32) : Cols × Cols × Cols :=
  (broadcast S16x1024 (Named.named κ "a" 0x3F462E2B#32), shapeCast S16x1024 y0 shapeCasts_S16x1024_S16x1024,
    shapeCast S16x1024 y1 shapeCasts_S16x1024_S16x1024)

/-- The doublings by 1 and 2. -/
theorem dbl2 (y0 y1 : Vec Ideal S16x1024 .f32) :
    (k1_pay8 (F := Ideal), k1_pay9 y0, k1_pay10 y0 y1) = next sh2 2 (next sh1 1 (start y0 y1)) := rfl

/-- The doublings by 4 and 8. -/
theorem dbl8 (a b c : Cols) :
    (k1_pay15 colsV a (Named.named κ "d" 0x3F800000#32), k1_pay16 colsV a b (Named.named κ "d" 0x3F800000#32),
      k1_pay17 colsV a b c (Named.named κ "d" 0x3F800000#32)) = next sh8 8 (next sh4 4 (a, b, c)) := rfl

/-- The doublings by 16, 32 and 64. -/
theorem dbl64 (a b c : Cols) :
    (k1_pay28 colsV a (mulf a (sh16 (Named.named κ "d" 0x3F800000#32) a)),
      k1_pay29 colsV a b (sh16 (Scalar.ofBits .f32 0x00000000#32) b) (mulf a (sh16 (Named.named κ "d" 0x3F800000#32) a)),
      k1_pay30 colsV a b c (sh16 (Scalar.ofBits .f32 0x00000000#32) b) (sh16 (Scalar.ofBits .f32 0x7149F2CA#32) c)
        (mulf a (sh16 (Named.named κ "d" 0x3F800000#32) a)))
      = next sh64 64 (next sh32 32 (next sh16 16 (a, b, c))) := rfl

/-- The doublings by 128, 256 and 512, the least of the two last arrays, and the final shift by one chunk. -/
theorem dblLast (a b c : Cols) :
    k1_pay1 colsV (k1_pay36 colsV a b (Named.named κ "d" 0x3F800000#32)) (k1_pay37 colsV a b c (Named.named κ "d" 0x3F800000#32))
        (k1_pay38 colsV a b (Named.named κ "d" 0x3F800000#32)) (k1_pay39 colsV a b c (Named.named κ "d" 0x3F800000#32))
      = sh1 (Scalar.ofBits .f32 0x00000000#32)
        (minimumf (next sh512 512 (next sh256 256 (next sh128 128 (a, b, c)))).2.1
          (next sh512 512 (next sh256 256 (next sh128 128 (a, b, c)))).2.2) := rfl

/-- All ten doublings. -/
def scanned (y0 y1 : Vec Ideal S16x1024 .f32) : Cols × Cols × Cols :=
  next sh512 512 (next sh256 256 (next sh128 128 (next sh64 64 (next sh32 32 (next sh16 16 (next sh8 8 (next sh4 4
    (next sh2 2 (next sh1 1 (start y0 y1))))))))))

/-- The second kernel's result from its two arrays: all doublings, the least, one chunk to the right. -/
theorem out1_2_eq (x0 x1 : Vec Ideal S16x1024 .f32) :
    out1_2 x0 x1 = sh1 (Scalar.ofBits .f32 0x00000000#32) (minimumf (scanned x0 x1).2.1 (scanned x0 x1).2.2) := by
  have hz : (![0, 0] : Fin 2 → Nat) = fun _ => 0 := funext fun a => by fin_cases a <;> rfl
  have hx : ∀ x : Vec Ideal S16x1024 .f32, View.ld x r1_0 = x := fun x => View.ld_unit_zero (S := S16x1024) hz _ x
  unfold out1_2
  unfold r1_0
  rw [View.canon_unit_zero hz]
  change k1_pay1 (k1_pay40 x0 x1) _ _ _ _ = _
  generalize hy : next sh2 2 (next sh1 1 (start x0 x1)) = t2
  have h41 : k1_pay41 x0 x1 = t2.1 := by rw [← hy]; exact congrArg (·.1) (dbl2 x0 x1)
  have h42 : k1_pay42 x0 x1 = t2.2.1 := by rw [← hy]; unfold k1_pay42; rw [hx]; exact congrArg (·.2.1) (dbl2 x0 x1)
  have h43 : k1_pay43 x0 x1 = t2.2.2 := by rw [← hy]; unfold k1_pay43; rw [hx, hx]; exact congrArg (·.2.2) (dbl2 x0 x1)
  generalize hu : next sh8 8 (next sh4 4 t2) = t8
  have e8 := dbl8 t2.1 t2.2.1 t2.2.2
  have h44 : k1_pay44 x0 x1 = t8.1 := by rw [← hu]; unfold k1_pay44; rw [h41]; exact congrArg (·.1) e8
  have h45 : k1_pay45 x0 x1 = t8.2.1 := by rw [← hu]; unfold k1_pay45; rw [h41, h42]; exact congrArg (·.2.1) e8
  have h17 : k1_pay17 (k1_pay40 x0 x1) (k1_pay41 x0 x1) (k1_pay42 x0 x1) (k1_pay43 x0 x1) (Named.named κ "d" 0x3F800000#32) = t8.2.2 := by
    rw [← hu, h41, h42, h43]; exact congrArg (·.2.2) e8
  have h46 : k1_pay46 x0 x1 = sh16 (Scalar.ofBits .f32 0x00000000#32) t8.2.1 := by rw [← h45]; rfl
  have h19 : k1_pay19 (k1_pay40 x0 x1) (k1_pay41 x0 x1) (k1_pay42 x0 x1) (k1_pay43 x0 x1) (Named.named κ "d" 0x3F800000#32)
      = sh16 (Scalar.ofBits .f32 0x7149F2CA#32) t8.2.2 := by rw [← h17]; rfl
  have h47 : k1_pay47 x0 x1 = mulf t8.1 (sh16 (Named.named κ "d" 0x3F800000#32) t8.1) := by rw [← h44]; rfl
  generalize hv : next sh64 64 (next sh32 32 (next sh16 16 t8)) = t64
  have e64 := dbl64 t8.1 t8.2.1 t8.2.2
  have h48 : k1_pay48 x0 x1 = t64.1 := by rw [← hv]; unfold k1_pay48; rw [h44, h47]; exact congrArg (·.1) e64
  have h49 : k1_pay49 x0 x1 = t64.2.1 := by rw [← hv]; unfold k1_pay49; rw [h44, h45, h46, h47]; exact congrArg (·.2.1) e64
  have h50 : k1_pay50 x0 x1 = t64.2.2 := by
    rw [← hv]; unfold k1_pay50; rw [h44, h45, h17, h46, h19, h47]; exact congrArg (·.2.2) e64
  unfold scanned
  rw [hy, hu, hv, h48, h49, h50]
  exact dblLast t64.1 t64.2.1 t64.2.2

variable (V : (c : Dev nD) → (b : Ref sig .tc) → Buf (Elt Ideal) ((c : Thread nD τ).loc b))

/-- The heats at the starts of all chunks. -/
def starts (X : ℕ → BitVec 32) : Cols := fun j => ((Heat.heat dR (fun u => Heat.note (X u) (j 0).val) (512 * (j 1).val) : ℝ) : EReal)

/-- From the chunks' sums and ceilings the second kernel makes the heats at the starts of the chunks. -/
theorem out1_2_starts (X : ℕ → BitVec 32) :
    out1_2 (F := Ideal) (fun j : S16x1024.Idx => ((Heat.lin dR (chunkInc X (j 0).val (j 1).val) 512 : ℝ) : EReal))
      (fun j : S16x1024.Idx => ((Heat.cap dR bigR (chunkInc X (j 0).val (j 1).val) 512 : ℝ) : EReal)) = starts X := by
  rw [out1_2_eq]
  have h1 : Windows (fun r => Heat.heat dR (fun u => Heat.note (X u) r)) 1
      (start (fun j : S16x1024.Idx => ((Heat.lin dR (chunkInc X (j 0).val (j 1).val) 512 : ℝ) : EReal))
        (fun j : S16x1024.Idx => ((Heat.cap dR bigR (chunkInc X (j 0).val (j 1).val) 512 : ℝ) : EReal))) := fun r n => by
    refine ⟨dR ^ 512, Heat.lin dR (chunkInc X r.val n.val) 512, Heat.cap dR bigR (chunkInc X r.val n.val) 512, ?_, ?_, ?_,
      Heat.window_one dR_nonneg big_ge (fun u => Heat.note (X u) r.val) 512 n.val⟩
    · exact named_a _
    · unfold start; dsimp only
      rw [shapeCast_self]; rfl
    · unfold start; dsimp only
      rw [shapeCast_self]; rfl
  have h := windows_next (by decide) sh512_shifts (windows_next (by decide) sh256_shifts (windows_next (by decide) sh128_shifts
    (windows_next (by decide) sh64_shifts (windows_next (by decide) sh32_shifts (windows_next (by decide) sh16_shifts
    (windows_next (by decide) sh8_shifts (windows_next (by decide) sh4_shifts (windows_next (by decide) sh2_shifts
    (windows_next (by decide) sh1_shifts h1)))))))))
  unfold scanned
  generalize next sh512 512 _ = t at h ⊢
  refine funext fun j => ?_
  obtain ⟨r, n, rfl⟩ : ∃ (r : Fin 16) (n : Fin 1024), j = ix2 r n := ⟨j 0, j 1, funext fun a => by fin_cases a <;> rfl⟩
  by_cases hn : n.val < 1
  · rw [(sh1_shifts _ _ r n).1 hn]
    show _ = ((Heat.heat dR _ (512 * n.val) : ℝ) : EReal)
    rw [show n.val = 0 by omega]
    show Ideal.ofBits .f32 0#32 = ((0 : ℝ) : EReal)
    simp [Ideal.ofBits, Ideal.ieee]
  · rw [(sh1_shifts _ _ r n).2 (by omega)]
    obtain ⟨a, b, c, -, hb, hc, hw⟩ := h r ⟨n.val - 1, by omega⟩
    show min (t.2.1 _) (t.2.2 _) = ((Heat.heat dR (fun u => Heat.note (X u) r.val) (512 * n.val) : ℝ) : EReal)
    rw [hb, hc]
    have := Heat.window_all (by show n.val - 1 < _; omega) hw
    rw [show 512 * (n.val - 1 + 1) = 512 * n.val by omega] at this
    rw [← this]
    push_cast; rfl

/-- The one block of region 1 is the whole array. -/
theorem idx1 : ∀ t : Fin cfg1.N, win1_0.index t = ![0, 0] ∧ win1_1.index t = ![0, 0] ∧ win1_2.index t = ![0, 0] :=
  (by decide +kernel : ∀ t : Fin grid1.N, _)

/-- The second kernel's whole array. -/
theorem arr1_2 (c : Dev nD) (X : ℕ → BitVec 32)
    (h0 : V c main_call0_v5_0 = fun j : S16x1024.Idx => ((Heat.lin dR (chunkInc X (j 0).val (j 1).val) 512 : ℝ) : EReal))
    (h1 : V c main_call0_v5_1 = fun j : S16x1024.Idx => ((Heat.cap dR bigR (chunkInc X (j 0).val (j 1).val) 512 : ℝ) : EReal)) :
    (dat1 V c).arrAt 2 cfg1.N = starts X := by
  refine (dat1 V c).arrAt_eq_of_covers 2 _ (by decide +kernel) fun t _ y => ?_
  have e0 : iblk1 V c 0 t = V c main_call0_v5_0 := by
    refine funext fun j => ?_
    blk_ext [iblk1, idx1 t]
  have e1 : iblk1 V c 1 t = V c main_call0_v5_1 := by
    refine funext fun j => ?_
    blk_ext [iblk1, idx1 t]
  blk_simp
  rw [after1_2, e0, e1, h0, h1, out1_2_starts]
  simp only [starts]
  blk_simp
  rw [(idx1 t).2.2]
  simp

end Cert.KernelIdeal.Hand

end
-- ==== Proof.ReplayValue.lean ====
/- Region 2's value: sixteen notes at a time, the heats after each and the rows of the output they make. -/
module

public import proofs.«01_k».proof.Proof.KernelIdealReplay
public import proofs.«01_k».proof.Proof.ScanValue
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window BodyObligation cellOf)

/-- Every note row lies in the block of sixteen. -/
theorem rowIn : ∀ k : Fin 16, S16x128.Slices ![k.val, 0] S1x128 := by decide +kernel

/-- Every output row lies in the output's block. -/
theorem outIn : ∀ k : Fin 16, ∀ a, (![0, 15 - k.val, 0] : Fin 3 → Nat) a + (![128, 1, 84] : Fin 3 → Nat) a ≤ S128x16x84.size a := by decide +kernel

/-- One note row as increments, one row of sixteen keys each. -/
def incV (v8 : IVec S1x128 32) : FVec Ideal S16x128 .f32 :=
  have v10 : BitVec 32 := Scalar.select (Scalar.cmpi .eq 12#32 0#32) 1#32 12#32
  have v12 : IVec S1x128 32 := remsi v8 (broadcast S1x128 v10)
  have v20 : IVec S1x128 1 := xori (cmpi .slt v12 (broadcast S1x128 0#32))
    (broadcastTo S1x128 (broadcast S1x128 (Scalar.cmpi .slt v10 0#32) : IVec S1x128 1) broadcasts_S1x128_S1x128)
  have v24 : IVec S1x128 32 := select (andi v20 (cmpi .ne v12 (broadcast S1x128 0#32))) (addi v12 (broadcast S1x128 v10)) v12
  have v31 : IVec S16x128 1 := andi (cmpi .eq (iota .tc S16x128 32 [0] iota_S16x128_d0_w32) (broadcastTo S16x128 v24 broadcasts_S1x128_S16x128))
    (broadcastTo S16x128 (cmpi .sgt v8 (broadcast S1x128 4294957296#32)) broadcasts_S1x128_S16x128)
  sitofp .f32 (extui 32 v31 natLt_1_32)

/-- One step of the heats: decayed, raised, held at five. -/
def stepV (h : FVec Ideal S16x128 .f32) (v8 : IVec S1x128 32) : FVec Ideal S16x128 .f32 :=
  minimumf (addf (mulf h (broadcast S16x128 (Named.named κ "d" 0x3F7FDF3D#32))) (incV v8)) (broadcast S16x128 (Scalar.ofBits .f32 0x40A00000#32))

/-- The heats after the first `k` of the sixteen notes. -/
def heatsV (v : IVec S16x128 32) (h : FVec Ideal S16x128 .f32) : (k : ℕ) → k ≤ 16 → FVec Ideal S16x128 .f32
  | 0, _ => h
  | k + 1, hk => stepV (heatsV v h k (Nat.le_of_succ_le hk)) (extractStridedSlice S1x128 ![k, 0] v (rowIn ⟨k, hk⟩))

/-- One output row from the heats. -/
def rowV (w : FVec Ideal S16x84 .f32) (h : FVec Ideal S16x128 .f32) : FVec Ideal S128x1x84 .f32 :=
  shapeCast S128x1x84 (matmul dot_S16x128_S16x84_S128x84_0_0_1_1_n_n none h (shapeCast S16x84 w shapeCasts_S16x84_S16x84)
    (constant S128x84 .f32 0x00000000#32)) shapeCasts_S128x84_S128x1x84

/-- The sixteen output rows, last first. -/
def rowsV (v : IVec S16x128 32) (h : FVec Ideal S16x128 .f32) (w : FVec Ideal S16x84 .f32) : List (View.Piece (Elt Ideal) S128x16x84 .f32) :=
  List.ofFn fun k : Fin 16 => ⟨Rect.unit ![0, 15 - k.val, 0] ![128, 1, 84] (outIn k), rowV w (heatsV v h (15 - k.val + 1) (by omega))⟩

/-- One note row's increments at an entry. -/
theorem incV_at (v : IVec S1x128 32) (r : Fin 16) (l : Fin 128) : incV v (ix2 r l) = (Heat.note (v (ix2 0 l)) r : EReal) := by
  pointwise [incV]
  rw [Heat.key_kernel]
  exact Heat.note_kernel _ _

/-- One step at an entry. -/
theorem stepV_at (h : FVec Ideal S16x128 .f32) (v : IVec S1x128 32) (r : Fin 16) (l : Fin 128) (x : ℝ) (hx : h (ix2 r l) = (x : EReal)) :
    stepV h v (ix2 r l) = ((min (x * dR + Heat.note (v (ix2 0 l)) r) 5 : ℝ) : EReal) := by
  pointwise [stepV]
  rw [hx, incV_at, named_d, five]
  push_cast
  rfl

/-- The heats after `k` of the sixteen notes, at an entry: the heat `k` notes after the first. -/
theorem heatsV_at (v : IVec S16x128 32) (h : FVec Ideal S16x128 .f32) (r : Fin 16) (l : Fin 128) (X : ℕ → BitVec 32) (t0 : ℕ)
    (hh : h (ix2 r l) = (Heat.heat dR (fun u => Heat.note (X u) r) t0 : EReal)) (hv : ∀ k : Fin 16, v (ix2 k l) = X (t0 + k)) :
    ∀ (k : ℕ) (hk : k ≤ 16), heatsV v h k hk (ix2 r l) = (Heat.heat dR (fun u => Heat.note (X u) r) (t0 + k) : EReal)
  | 0, _ => hh
  | k + 1, hk => by
    have ih := heatsV_at v h r l X t0 hh hv k (by omega)
    have hrow : extractStridedSlice S1x128 ![k, 0] v (rowIn ⟨k, hk⟩) (ix2 0 l) = X (t0 + k) := by
      rw [← hv ⟨k, hk⟩]
      unfold extractStridedSlice
      refine congrArg v (funext fun a => Fin.ext ?_)
      fin_cases a <;> simp
    show stepV _ _ (ix2 r l) = _
    rw [stepV_at _ _ r l _ ih, hrow]
    rfl

/-- One output row at an entry: the heats' sum against the weights' column. -/
theorem rowV_at (w : FVec Ideal S16x84 .f32) (h : FVec Ideal S16x128 .f32) (l : Fin 128) (q : Fin 84) :
    rowV w h (ix3 l 0 q) = ∑ r : Fin 16, h (ix2 r l) * w (ix2 r q) := by
  unfold rowV
  rw [shapeCast_self]
  pointwise

section
variable (c : Dev nD) (i : grid2.Coords) (arg2 : Memref sig .tc .vmem S512x128 .i32) (harg2 : arg2.IsWhole) (arg3 : Memref sig .tc .vmem S16x128 .f32) (harg3 : arg3.IsWhole) (arg4 : Memref sig .tc .vmem S16x84 .f32) (harg4 : arg4.IsWhole) (arg5 : Memref sig .tc .vmem S128x16x84 .f32) (harg5 : arg5.IsWhole) (arg6 : Memref sig .tc .vmem S16x128 .f32) (harg6 : arg6.IsWhole)
    (x0 : Vec Ideal S512x128 .i32) (x1 : Vec Ideal S16x128 .f32) (x2 : Vec Ideal S16x84 .f32)

/-- The sixteen notes of one point, loaded from the block of notes. -/
def notesV : IVec S16x128 32 :=
  k2_pay5 (View.readAt (Elt Ideal) arg2.view
    (Rect.unit (s := S512x128) (k2_off1 i) S16x128.size
      (k2_off1_inb i)).toLoadRect (harg2.unread x0))

/-- The weights, loaded whole. -/
def wV : FVec Ideal S16x84 .f32 :=
  View.readAt (Elt Ideal) arg4.view (Rect.unit (s := S16x84) ![0, 0] S16x84.size inb_S16x84_S16x84_0_0).toLoadRect (harg4.unread x2)

/-- The carried heats, loaded whole. -/
def hV (xs0 : Vec Ideal S16x128 .f32) : FVec Ideal S16x128 .f32 :=
  View.readAt (Elt Ideal) arg6.view (Rect.unit (s := S16x128) ![0, 0] S16x128.size inb_S16x128_S16x128_0_0).toLoadRect (harg6.unread xs0)

/-- The chunk's start, copied and loaded back. -/
def hA : FVec Ideal S16x128 .f32 :=
  arg6.view.readCov (Val := Elt Ideal)
        [⟨Rect.unit (s := S16x128) ![0, 0] S16x128.size inb_S16x128_S16x128_0_0,
            k2_pay4
              (View.readAt (Elt Ideal) arg3.view
                (Rect.unit (s := S16x128) ![0, 0] S16x128.size inb_S16x128_S16x128_0_0).toLoadRect (harg3.unread x1))⟩]
        (Rect.unit (s := S16x128) ![0, 0] S16x128.size inb_S16x128_S16x128_0_0).toLoadRect

/-- The chunk's start is loaded back as it was. -/
theorem hA_eq : hA arg3 harg3 arg6 x1 = x1 := by
  have hz : (![0, 0] : Fin 2 → Nat) = fun _ => 0 := funext fun a => by fin_cases a <;> rfl
  unfold hA
  rw [View.readCov_unit_zero _ hz, View.readAt_eq_ld, harg3.read_unread, View.ld_unit_zero (S := S16x128) hz]
  unfold k2_pay4
  dsimp only
  rw [shapeCast_self, shapeCast_self]

/-- The carried heats are loaded as they are. -/
theorem hV_eq (xs0 : Vec Ideal S16x128 .f32) : hV arg6 harg6 xs0 = xs0 := by
  have hz : (![0, 0] : Fin 2 → Nat) = fun _ => 0 := funext fun a => by fin_cases a <;> rfl
  unfold hV
  rw [View.readAt_eq_ld, harg6.read_unread, View.ld_unit_zero (S := S16x128) hz]

/-- The weights are loaded as they are. -/
theorem wV_eq : wV arg4 harg4 x2 = x2 := by
  have hz : (![0, 0] : Fin 2 → Nat) = fun _ => 0 := funext fun a => by fin_cases a <;> rfl
  unfold wV
  rw [View.readAt_eq_ld, harg4.read_unread, View.ld_unit_zero (S := S16x84) hz]

/-- Note `k` of the point is row `16 j + k` of the block of notes. -/
theorem notesV_at (k : Fin 16) (l : Fin 128) (h : 16 * (i 1).val + k.val < 512) :
    notesV i arg2 harg2 x0 (ix2 k l) = x0 (ix2 ⟨16 * (i 1).val + k.val, h⟩ l) := by
  unfold notesV k2_pay5
  rw [View.readAt_eq_ld, harg2.read_unread, shapeCast_self]
  pointwise [k2_off1]
  have e : ∀ j : Fin 32, BitVec.toNat (Scalar.indexCast (Scalar.muli (BitVec.ofNat 32 j.val) 16#32)) = 16 * j.val := by decide +kernel
  exact congrArg (fun u : Fin 512 => x0 (ix2 u l)) (Fin.ext (congrArg (· + k.val) (e (i 1))))

/-- A later point's rows. -/
theorem runB_rows (hc0 : ¬ cond2_0 i) (xs0) : (kernelRun2_B c i arg2 harg2 arg3 harg3 arg4 harg4 arg5 harg5 arg6 harg6 hc0 x0 x1 x2 xs0).1
    = rowsV (notesV i arg2 harg2 x0) (hV arg6 harg6 xs0) (wV arg4 harg4 x2) := by
  sl_kernel_rfl

/-- What a later point carries on. -/
theorem runB_heats (hc0 : ¬ cond2_0 i) (xs0) : (kernelRun2_B c i arg2 harg2 arg3 harg3 arg4 harg4 arg5 harg5 arg6 harg6 hc0 x0 x1 x2 xs0).2.1
    = [⟨Rect.unit (s := S16x128) ![0, 0] S16x128.size inb_S16x128_S16x128_0_0,
        shapeCast S16x128 (heatsV (notesV i arg2 harg2 x0) (hV arg6 harg6 xs0) 16 le_rfl) shapeCasts_S16x128_S16x128⟩] := by
  sl_kernel_rfl

/-- A first point's rows. -/
theorem runA_rows (hc0 : cond2_0 i) : (kernelRun2_A c i arg2 harg2 arg3 harg3 arg4 harg4 arg5 harg5 arg6 harg6 hc0 x0 x1 x2).1
    = rowsV (notesV i arg2 harg2 x0) (hA arg3 harg3 arg6 x1) (wV arg4 harg4 x2) := by
  sl_kernel_rfl

/-- What a first point carries on. -/
theorem runA_heats (hc0 : cond2_0 i) : (kernelRun2_A c i arg2 harg2 arg3 harg3 arg4 harg4 arg5 harg5 arg6 harg6 hc0 x0 x1 x2).2.1
    = [⟨Rect.unit (s := S16x128) ![0, 0] S16x128.size inb_S16x128_S16x128_0_0,
        shapeCast S16x128 (heatsV (notesV i arg2 harg2 x0) (hA arg3 harg3 arg6 x1) 16 le_rfl) shapeCasts_S16x128_S16x128⟩,
        ⟨Rect.unit (s := S16x128) ![0, 0] S16x128.size inb_S16x128_S16x128_0_0, k2_pay4
              (View.readAt (Elt Ideal) arg3.view
                (Rect.unit (s := S16x128) ![0, 0] S16x128.size inb_S16x128_S16x128_0_0).toLoadRect (harg3.unread x1))⟩] := by
  sl_kernel_rfl

/-- What a later point leaves in the scratch. -/
theorem sout2_B_eq (hc0 : ¬ cond2_0 i) (xs0) : sout2_B_0 c i arg2 harg2 arg3 harg3 arg4 harg4 arg5 harg5 arg6 harg6 hc0 x0 x1 x2 xs0
    = heatsV (notesV i arg2 harg2 x0) xs0 16 le_rfl := by
  have hz : (![0, 0] : Fin 2 → Nat) = fun _ => 0 := funext fun a => by fin_cases a <;> rfl
  unfold sout2_B_0
  rw [View.read_writes_eq_canon _ _ _ (scover2_B_0 c i arg2 harg2 arg3 harg3 arg4 harg4 arg5 harg5 arg6 harg6 hc0 x0 x1 x2 xs0),
    runB_heats, View.canon_unit_zero hz, shapeCast_self, hV_eq]

/-- What a first point leaves in the scratch. -/
theorem sout2_A_eq (hc0 : cond2_0 i) : sout2_A_0 c i arg2 harg2 arg3 harg3 arg4 harg4 arg5 harg5 arg6 harg6 hc0 x0 x1 x2
    = heatsV (notesV i arg2 harg2 x0) x1 16 le_rfl := by
  have hz : (![0, 0] : Fin 2 → Nat) = fun _ => 0 := funext fun a => by fin_cases a <;> rfl
  unfold sout2_A_0
  rw [View.read_writes_eq_canon _ _ _ (scover2_A_0 c i arg2 harg2 arg3 harg3 arg4 harg4 arg5 harg5 arg6 harg6 hc0 x0 x1 x2),
    runA_heats, View.canon_cons_unit_zero hz, shapeCast_self, hA_eq]

/-- The rows read back: row `k` is made from the heats after note `k`. -/
theorem rows_at (v : IVec S16x128 32) (h : FVec Ideal S16x128 .f32) (w : FVec Ideal S16x84 .f32) (l : Fin 128) (k : Fin 16) (q : Fin 84) :
    View.canon (rowsV v h w) (ix3 l k q) = rowV w (heatsV v h (k.val + 1) k.isLt) (ix3 l 0 q) := by
  unfold rowsV
  refine View.canon_ofFn_unit_eq_of_forall (S := S128x16x84) (fun k : Fin 16 => ![0, 15 - k.val, 0]) ![128, 1, 84] outIn _ _ _ ?_ ?_
  · refine ⟨⟨15 - k.val, by omega⟩, fun a => ?_⟩
    fin_cases a
    · simp
    · show 15 - (15 - k.val) ≤ k.val ∧ k.val < 15 - (15 - k.val) + 1
      omega
    · simp
  · intro k' x hx
    have h0 : l.val = 0 + (x 0).val := hx 0
    have h1 : k.val = (15 - k'.val) + (x 1).val := hx 1
    have h2 : q.val = 0 + (x 2).val := hx 2
    have hx1 : (x 1).val < 1 := (x 1).isLt
    have e : x = ix3 l 0 q := funext fun a => Fin.ext (by
      fin_cases a
      · exact (h0.trans (Nat.zero_add _)).symm
      · show (x 1).val = 0
        omega
      · exact (h2.trans (Nat.zero_add _)).symm)
    have ek : k.val = 15 - k'.val := by omega
    have eh : ∀ (n m : ℕ) (hn : n ≤ 16) (hm : m ≤ 16), n = m → heatsV v h n hn = heatsV v h m hm := by
      rintro n _ hn hm rfl; rfl
    rw [e]
    exact congrArg (fun H => rowV w H (ix3 l 0 q)) (eh _ _ _ _ (by omega))

/-- A later point's output block. -/
theorem out2_B_at (hc0 : ¬ cond2_0 i) (xs0) (l : Fin 128) (k : Fin 16) (q : Fin 84) :
    out2_B_3 c i arg2 harg2 arg3 harg3 arg4 harg4 arg5 harg5 arg6 harg6 hc0 x0 x1 x2 xs0 (ix3 l k q)
    = rowV x2 (heatsV (notesV i arg2 harg2 x0) xs0 (k.val + 1) k.isLt) (ix3 l 0 q) := by
  unfold out2_B_3
  rw [View.read_writes_eq_canon _ _ _ (cover2_B_3 c i arg2 harg2 arg3 harg3 arg4 harg4 arg5 harg5 arg6 harg6 hc0 x0 x1 x2 xs0),
    runB_rows, rows_at, hV_eq, wV_eq]

/-- A first point's output block. -/
theorem out2_A_at (hc0 : cond2_0 i) (l : Fin 128) (k : Fin 16) (q : Fin 84) :
    out2_A_3 c i arg2 harg2 arg3 harg3 arg4 harg4 arg5 harg5 arg6 harg6 hc0 x0 x1 x2 (ix3 l k q)
    = rowV x2 (heatsV (notesV i arg2 harg2 x0) x1 (k.val + 1) k.isLt) (ix3 l 0 q) := by
  unfold out2_A_3
  rw [View.read_writes_eq_canon _ _ _ (cover2_A_3 c i arg2 harg2 arg3 harg3 arg4 harg4 arg5 harg5 arg6 harg6 hc0 x0 x1 x2),
    runA_rows, rows_at, hA_eq, wV_eq]

end

end Cert.KernelIdeal.Hand

end
-- ==== Proof.Target.lean ====
/- What both programs compute: at every time step, the twelve heats after that note against the weights. -/
module

public import proofs.«01_k».proof.Proof.KernelNote

@[expose] public section

noncomputable section

namespace Cert.KernelIdeal.Hand

open Cert.KernelIdeal
open Idealize.ShloMosaic

/-- The heat of key `r` after `n` notes. -/
def heatR (X : ℕ → BitVec 32) (r n : ℕ) : ℝ := Heat.heat dR (fun u => Heat.note (X u) r) n

/-- The notes as a sequence: note `k` of the row, zero past its end. -/
def noteAt (x : S1x524288.Idx → BitVec 32) (k : ℕ) : BitVec 32 :=
  if h : k < 524288 then x (ix2 (n0 := 1) (n1 := 524288) 0 ⟨k, h⟩) else 0#32

/-- A note inside the row is the row's word. -/
theorem noteAt_of (x : S1x524288.Idx → BitVec 32) (k : Fin 524288) : noteAt x k.val = x (ix2 (n0 := 1) (n1 := 524288) 0 k) :=
  dif_pos k.isLt

/-- The result: at time step `t` and output `(a, b)`, the twelve heats after note `t` against the weights' column `12 a + b`. -/
def target (x : S1x524288.Idx → BitVec 32) (w : S12x84.Idx → EReal) : S1x524288x7x12.Idx → EReal := fun j =>
  ∑ r : Fin 12, (heatR (noteAt x) r ((j 1).val + 1) : EReal)
    * w (ix2 (n0 := 12) (n1 := 84) r ⟨12 * (j 2).val + (j 3).val, by have h2 : (j 2).val < 7 := (j 2).isLt; have h3 : (j 3).val < 12 := (j 3).isLt; omega⟩)

end Cert.KernelIdeal.Hand

end
-- ==== Proof.ReplayArray.lean ====
/- Region 2's array: the output of every time step, whole, from the blocks of 128 chunks and sixteen notes. -/
module

public import proofs.«01_k».proof.Proof.ReplayValue
public import proofs.«01_k».proof.Proof.Target

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window BodyObligation cellOf)

variable (V : (c : Dev nD) → (b : Ref sig .tc) → Buf (Elt Ideal) ((c : Thread nD τ).loc b))

/-- The blocks of region 2 at point `t`. -/
theorem idx2 : ∀ t : Fin cfg2.N, win2_0.index t = ![0, t.val / 32] ∧ win2_1.index t = ![0, t.val / 32] ∧ win2_2.index t = ![0, 0]
    ∧ win2_3.index t = ![t.val / 32, t.val % 32, 0] :=
  (by decide +kernel : ∀ t : Fin grid2.N, _)

/-- The second grid coordinate of point `t`. -/
theorem coord2 (t : Fin cfg2.N) : (grid2.coords t 1).val = t.val % 32 := by
  have e1 : (grid2.coords t 1).val = t.val / 1 % 32 := Pipeline.Grid.coords_val t 1 (by decide) rfl
  rw [e1, Nat.div_one]

/-- The output's column `q` after `n` notes: the sixteen heats against the weights' column. -/
def outR (X : ℕ → BitVec 32) (w : S16x84.Idx → EReal) (n : ℕ) (q : Fin 84) : EReal :=
  ∑ r : Fin 16, (heatR X r n : EReal) * w (ix2 r q)

section
variable (c : Dev nD) (X : ℕ → BitVec 32)
  (hx : ∀ (u : Fin 512) (n : Fin 1024), V c main_call0_v1 (ix2 u n) = X (512 * n.val + u.val))
  (hs : V c main_call0_v6 = starts X)

include hx in
/-- The block of notes at point `t`. -/
theorem iblk2_0_at (t : Fin cfg2.N) (u : Fin 512) (l : Fin 128) :
    iblk2 V c 0 t (ix2 u l) = X (512 * (t.val / 32 * 128 + l.val) + u.val) := by
  have ht : t.val < 256 := lt_of_lt_of_eq t.isLt N_2
  rw [← hx u ⟨t.val / 32 * 128 + l.val, by omega⟩]
  blk_ext [iblk2, idx2 t]

include hs in
/-- The block of starts at point `t`. -/
theorem iblk2_1_at (t : Fin cfg2.N) (r : Fin 16) (l : Fin 128) :
    iblk2 V c 1 t (ix2 r l) = (heatR X r (512 * (t.val / 32 * 128 + l.val)) : EReal) := by
  have ht : t.val < 256 := lt_of_lt_of_eq t.isLt N_2
  have e : iblk2 V c 1 t (ix2 r l) = V c main_call0_v6 (ix2 r ⟨t.val / 32 * 128 + l.val, by omega⟩) := by
    blk_ext [iblk2, idx2 t]
  rw [e, hs]
  rfl

/-- The weights' block is the whole array. -/
theorem iblk2_2_eq (t : Fin cfg2.N) : iblk2 V c 2 t = V c main_call0_v4 := by
  refine funext fun j => ?_
  blk_ext [iblk2, idx2 t]

include hx in
/-- The notes of point `t`. -/
theorem notes2_at (t : Fin cfg2.N) (k : Fin 16) (l : Fin 128) :
    notesV (grid2.coords t) (ms2_0 t) (hs2_0 t) (iblk2 V c 0 t) (ix2 k l)
      = X (512 * (t.val / 32 * 128 + l.val) + 16 * (t.val % 32) + k.val) := by
  have e := coord2 t
  rw [notesV_at _ _ _ _ _ _ (by omega), iblk2_0_at V c X hx]
  simp only [e]
  rw [Nat.add_assoc]

include hx hs in
/-- What the scratch holds after point `t`: the heats after the point's sixteen notes. -/
theorem outsAt2_at : ∀ (n : ℕ) (hn : n < cfg2.N) (r : Fin 16) (l : Fin 128),
    outsAt2 V c n hn (ix2 r l) = (heatR X r (512 * (n / 32 * 128 + l.val) + 16 * (n % 32) + 16) : EReal) := by
  intro n
  induction n with
  | zero =>
    intro hn r l
    rw [show outsAt2 V c 0 hn = _ from outsAt2_A V c ⟨0, hn⟩ rfl, sout2_A_eq]
    refine heatsV_at _ _ r l X (512 * (0 / 32 * 128 + l.val) + 16 * (0 % 32)) ?_ (fun k => notes2_at V c X hx ⟨0, hn⟩ k l) 16 le_rfl
    exact iblk2_1_at V c X hs ⟨0, hn⟩ r l
  | succ n ih =>
    intro hn r l
    by_cases h0 : (n + 1) % 32 = 0
    · rw [show outsAt2 V c (n + 1) hn = _ from outsAt2_A V c ⟨n + 1, hn⟩ h0, sout2_A_eq]
      refine heatsV_at _ _ r l X (512 * ((n + 1) / 32 * 128 + l.val) + 16 * ((n + 1) % 32)) ?_ (fun k => notes2_at V c X hx ⟨n + 1, hn⟩ k l) 16 le_rfl
      rw [h0]
      exact iblk2_1_at V c X hs ⟨n + 1, hn⟩ r l
    · rw [show outsAt2 V c (n + 1) hn = _ from outsAt2_B V c ⟨n + 1, hn⟩ h0, sout2_B_eq]
      refine heatsV_at _ _ r l X (512 * ((n + 1) / 32 * 128 + l.val) + 16 * ((n + 1) % 32)) ?_ (fun k => notes2_at V c X hx ⟨n + 1, hn⟩ k l) 16 le_rfl
      refine (ih (Nat.lt_of_succ_lt hn) r l).trans ?_
      have : 512 * (n / 32 * 128 + l.val) + 16 * (n % 32) + 16 = 512 * ((n + 1) / 32 * 128 + l.val) + 16 * ((n + 1) % 32) := by omega
      rw [this]
      rfl

include hx hs in
/-- The output block at point `t`. -/
theorem outAt2_at (t : Fin cfg2.N) (l : Fin 128) (k : Fin 16) (q : Fin 84) :
    outAt2 V c t (ix3 l k q)
      = outR X (V c main_call0_v4) (512 * (t.val / 32 * 128 + l.val) + (t.val % 32 * 16 + k.val) + 1) q := by
  unfold outR
  have hk : 512 * (t.val / 32 * 128 + l.val) + (t.val % 32 * 16 + k.val) + 1
      = 512 * (t.val / 32 * 128 + l.val) + 16 * (t.val % 32) + (k.val + 1) := by omega
  rw [hk]
  by_cases h0 : t.val % 32 = 0
  · rw [outAt2_A V c t h0, out2_A_at, rowV_at, iblk2_2_eq]
    refine Finset.sum_congr rfl fun r _ => congrArg (· * V c main_call0_v4 (ix2 r q)) ?_
    refine heatsV_at _ _ r l X _ ?_ (fun k => notes2_at V c X hx t k l) (k.val + 1) k.isLt
    rw [h0]
    exact iblk2_1_at V c X hs t r l
  · rw [outAt2_B V c t h0, out2_B_at, rowV_at, iblk2_2_eq]
    refine Finset.sum_congr rfl fun r _ => congrArg (· * V c main_call0_v4 (ix2 r q)) ?_
    refine heatsV_at _ _ r l X _ ?_ (fun k => notes2_at V c X hx t k l) (k.val + 1) k.isLt
    have hpos : t.val ≠ 0 := fun h => h0 (by rw [h])
    refine (outsAt2_at V c X hx hs (t.val - 1) _ r l).trans ?_
    have : 512 * ((t.val - 1) / 32 * 128 + l.val) + 16 * ((t.val - 1) % 32) + 16 = 512 * (t.val / 32 * 128 + l.val) + 16 * (t.val % 32) := by omega
    rw [this]
    rfl

include hx hs in
/-- The third kernel's whole array. -/
theorem arr2_3 : (dat2 V c).arrAt 3 cfg2.N = fun j : S1024x512x84.Idx =>
    outR X (V c main_call0_v4) (512 * (j 0).val + (j 1).val + 1) (j 2) := by
  refine (dat2 V c).arrAt_eq_of_covers 3 _ (by decide +kernel) fun t _ y => ?_
  blk_simp
  rw [after2_3, (idx2 t).2.2.2, show y = ix3 (n0 := 128) (n1 := 16) (n2 := 84) (y 0) (y 1) (y 2) from funext fun a => by fin_cases a <;> rfl]
  rw [outAt2_at V c X hx hs t (y 0) (y 1) (y 2)]
  have h2 : (win2_3.rect t).emb y 2 = (y 2 : Fin 84) := Fin.ext (by
    have h : ((win2_3.rect t).emb y 2).val = win2_3.index t 2 * 84 + (y 2).val := by blk_simp
    rw [h, (idx2 t).2.2.2]
    exact Nat.zero_add _)
  refine congrArg₂ (outR X (V c main_call0_v4)) ?_ h2.symm
  simp

end

end Cert.KernelIdeal.Hand

end
-- ==== Proof.KernelHost.lean ====
/- The kernel's result: the host operations around the three regions, and the whole run's value. -/
module

public import proofs.«01_k».proof.Proof.FoldArray
public import proofs.«01_k».proof.Proof.ScanValue
public import proofs.«01_k».proof.Proof.ReplayArray
public import proofs.«01_k».proof.Proof.KernelIdealLaunch
public import Idealize.ShloMosaic.Lib.Routing.OpsSet
public import Idealize.ShloMosaic.Lib.Routing.OpsPair
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Routing
open Idealize.ShloMosaic.Pipeline (Dat Cfg Window BodyObligation cellOf)

/-- The notes reshaped to 1024 chunks of 512 and transposed. -/
theorem notesT_at (x : S1x524288.Idx → BitVec 32) (u : Fin 512) (n : Fin 1024) :
    transpose S512x1024 [1, 0] (shapeCast S1024x512 x shapeCasts_S1x524288_S1024x512) transposes_S1024x512_S512x1024_1_0 (ix2 u n)
      = noteAt x (512 * n.val + u.val) := by
  have hu := u.isLt
  have hn := n.isLt
  rw [show 512 * n.val + u.val = (⟨512 * n.val + u.val, by omega⟩ : Fin 524288).val from rfl, noteAt_of]
  pointwise
  exact congrArg x (congrArg (ix2 (n0 := 1) (n1 := 524288) 0) (Fin.ext (by dsimp only; omega)))

/-- An update of the zero scatter lands at its own place. -/
theorem lands_pad (z : IVec S1 32) (hz : z = fun _ => 0#32) (r : Fin 12) (q : Fin 84) (i : Fin 16) (p : Fin 84) :
    scatter_S16x84_S1_S12x84_01_n_0_0.resultIdx? (ix2 r q) z = some (ix2 i p) ↔ r.val = i.val ∧ q.val = p.val := by
  subst hz
  have hs : ∀ a, scatter_S16x84_S1_S12x84_01_n_0_0.start (ix2 r q) (fun _ => 0#32) a = 0 := fun a => by
    unfold ScatterDims.start
    split <;> rfl
  have h0 : scatter_S16x84_S1_S12x84_01_n_0_0.window (ix2 r q) 0 = r.val := rfl
  have h1 : scatter_S16x84_S1_S12x84_01_n_0_0.window (ix2 r q) 1 = q.val := rfl
  refine (resultIdx?_ix2 (R := 16) (C := 84) _ (ix2 r q) _ i p).trans ?_
  rw [hs, hs, h0, h1]
  omega

/-- The padded weights: the twelve rows, then zeros. -/
def wpad (w : S12x84.Idx → EReal) : S16x84.Idx → EReal := fun j =>
  if h : (j 0).val < 12 then w (ix2 (n0 := 12) (n1 := 84) ⟨(j 0).val, h⟩ (j 1)) else 0

/-- The host lays the twelve rows of weights over sixteen rows of zeros. -/
theorem pad_eq (w : S12x84.Idx → EReal) :
    Host.scatter scatter_S16x84_S1_S12x84_01_n_0_0 (fun _ b => b)
      (broadcastInDim S16x84 ![] bcast_S_S16x84 (constant (F := Ideal) S_ .f32 0x00000000#32))
      (broadcastInDim S1 ![] bcast_S_S1 (constantI S_ 32 0#32)) w = wpad w := by
  funext j
  obtain ⟨i, p, rfl⟩ : ∃ (i : Fin 16) (p : Fin 84), j = ix2 i p := ⟨j 0, j 1, funext fun a => by fin_cases a <;> rfl⟩
  by_cases h : i.val < 12
  · refine (scatter_set_hit _ _ _ _ _ (w (ix2 ⟨i.val, h⟩ p)) (fun k hk => ?_) (ix2 ⟨i.val, h⟩ p) ((lands_pad _ rfl _ _ _ _).2 ⟨rfl, rfl⟩)).trans (Eq.symm ?_)
    · obtain ⟨r, q, rfl⟩ : ∃ (r : Fin 12) (q : Fin 84), k = ix2 r q := ⟨k 0, k 1, funext fun a => by fin_cases a <;> rfl⟩
      obtain ⟨e0, e1⟩ := (lands_pad _ rfl _ _ _ _).1 hk
      exact congrArg₂ (fun a b => w (ix2 a b)) (Fin.ext e0) (Fin.ext e1)
    · exact dif_pos (show ((ix2 i p : S16x84.Idx) 0).val < 12 from h)
  · refine (scatter_set_miss _ _ _ _ _ (fun k hk => ?_)).trans (Eq.trans (b := (0 : EReal)) ?_ (Eq.symm ?_))
    · obtain ⟨r, q, rfl⟩ : ∃ (r : Fin 12) (q : Fin 84), k = ix2 r q := ⟨k 0, k 1, funext fun a => by fin_cases a <;> rfl⟩
      obtain ⟨e0, e1⟩ := (lands_pad _ rfl _ _ _ _).1 hk
      exact h (e0 ▸ r.isLt)
    · pointwise
    · exact dif_neg (show ¬((ix2 i p : S16x84.Idx) 0).val < 12 from h)

/-- The padded rows add nothing: the sixteen products against the padded weights are the twelve against the weights. -/
theorem outR_pad (X : ℕ → BitVec 32) (w : S12x84.Idx → EReal) (n : ℕ) (q : Fin 84) :
    outR X (wpad w) n q = ∑ r : Fin 12, (heatR X r n : EReal) * w (ix2 (n0 := 12) (n1 := 84) r q) := by
  have e : ∀ r : Fin 4, (heatR X (Fin.natAdd 12 r).val n : EReal) * wpad w (ix2 (Fin.natAdd 12 r) q) = 0 := fun r => by
    have : wpad w (ix2 (n0 := 16) (n1 := 84) (Fin.natAdd 12 r) q) = 0 := dif_neg (by simp)
    rw [this, mul_zero]
  unfold outR
  rw [show (∑ r : Fin 16, (heatR X r n : EReal) * wpad w (ix2 r q)) = ∑ r : Fin (12 + 4), (heatR X r n : EReal) * wpad w (ix2 (n0 := 16) (n1 := 84) r q) from rfl,
    Fin.sum_univ_add, Finset.sum_eq_zero (fun r _ => e r), add_zero]
  refine Finset.sum_congr rfl fun r _ => ?_
  have : wpad w (ix2 (n0 := 16) (n1 := 84) (Fin.castAdd 4 r) q) = w (ix2 r q) := dif_pos r.isLt
  rw [this]
  rfl

/-- The output reshaped to the result's shape: time step `t` is note `t % 512` of chunk `t / 512`. -/
theorem result_at (y : S1024x512x84.Idx → EReal) (t : Fin 524288) (a : Fin 7) (b : Fin 12) :
    shapeCast S1x524288x7x12 y shapeCasts_S1024x512x84_S1x524288x7x12 (ix4 (0 : Fin 1) t a b)
      = y (ix3 (n0 := 1024) (n1 := 512) (n2 := 84) ⟨t.val / 512, by omega⟩ ⟨t.val % 512, by omega⟩ ⟨12 * a.val + b.val, by omega⟩) := by
  pointwise
  exact congrArg y (congrArg (ix3 (n0 := 1024) (n1 := 512) (n2 := 84) _ _) (Fin.ext (by dsimp only; omega)))

variable (m : (ℓ : Loc nD τ sig) → Buf (Elt Ideal) ℓ) (ρ : Dev nD → PrngReg) (c : Dev nD)

/-- Region 0 enters with the notes chunk by chunk. -/
theorem W1_notes : W1 m ρ c (Proc.devRef .tc main_call0_v1)
    = transpose S512x1024 [1, 0] (shapeCast S1024x512 (m ((c : Thread nD τ).loc main_arg0)) shapeCasts_S1x524288_S1024x512) transposes_S1024x512_S512x1024_1_0 := by
  show StableHlo.after hostOps0 _ (Proc.devRef .tc main_call0_v1) = _
  after_results
  rfl

/-- Region 0 enters with the padded weights. -/
theorem W1_weights : W1 m ρ c (Proc.devRef .tc main_call0_v4) = wpad (m ((c : Thread nD τ).loc main_arg1)) := by
  refine Eq.trans ?_ (pad_eq (m ((c : Thread nD τ).loc main_arg1)))
  show StableHlo.after hostOps0 _ (Proc.devRef .tc main_call0_v4) = _
  after_results
  simp only [StableHlo.TRef.ofBuf, StableHlo.TRef.toBuf, eqRec_eq_cast, cast_cast, cast_eq]

/-- Region 0's notes, read by chunk and place. -/
theorem V1_notes (u : Fin 512) (n : Fin 1024) :
    V1 m ρ c main_call0_v1 (ix2 u n) = noteAt (m ((c : Thread nD τ).loc main_arg0)) (512 * n.val + u.val) :=
  (congrFun (W1_notes m ρ c) (ix2 u n)).trans (notesT_at _ u n)

/-- Regions 0 and 1 leave the notes alone. -/
theorem V3_notes (u : Fin 512) (n : Fin 1024) :
    V3 m ρ c main_call0_v1 (ix2 u n) = noteAt (m ((c : Thread nD τ).loc main_arg0)) (512 * n.val + u.val) :=
  (congrFun ((W3_of_ne m ρ c main_call0_v1 (by decide +kernel)).trans (W2_of m ρ c main_call0_v1 (by decide +kernel))) (ix2 u n)).trans
    (V1_notes m ρ c u n)

/-- Regions 0 and 1 leave the padded weights alone. -/
theorem V3_weights : V3 m ρ c main_call0_v4 = wpad (m ((c : Thread nD τ).loc main_arg1)) :=
  ((W3_of_ne m ρ c main_call0_v4 (by decide +kernel)).trans (W2_of_ne m ρ c main_call0_v4 (by decide +kernel))).trans (W1_weights m ρ c)

/-- Region 2 enters with every chunk's starting heats. -/
theorem V3_starts : V3 m ρ c main_call0_v6 = starts (noteAt (m ((c : Thread nD τ).loc main_arg0))) :=
  (W3_arr m ρ c 2).trans (arr1_2 (V2 m ρ) c _ ((W2_arr m ρ c 1).trans (arr0_1 (V1 m ρ) c _ (V1_notes m ρ c)))
    ((W2_arr m ρ c 2).trans (arr0_2 (V1 m ρ) c _ (V1_notes m ρ c))))

/-- The kernel's result. -/
theorem value : W5 m ρ c (Proc.devRef .tc main_v0)
    = target (m ((c : Thread nD τ).loc main_arg0)) (m ((c : Thread nD τ).loc main_arg1)) := by
  have h4 := (W4_arr m ρ c 3).trans (arr2_3 (V3 m ρ) c _ (V3_notes m ρ c) (V3_starts m ρ c))
  have h5 : W5 m ρ c (Proc.devRef .tc main_v0)
      = shapeCast S1x524288x7x12 (W4 m ρ c (Proc.devRef .tc main_call0_v7)) shapeCasts_S1024x512x84_S1x524288x7x12 := by
    show StableHlo.after hostOps3 _ (Proc.devRef .tc main_v0) = _
    after_results
    rfl
  rw [h5]
  funext j
  obtain ⟨t, a, b, rfl⟩ : ∃ (t : Fin 524288) (a : Fin 7) (b : Fin 12), j = ix4 (0 : Fin 1) t a b :=
    ⟨j 1, j 2, j 3, funext fun i => by fin_cases i <;> first | rfl | exact Subsingleton.elim (α := Fin 1) _ _⟩
  refine (result_at _ t a b).trans ?_
  refine (congrFun h4 _).trans ?_
  rw [V3_weights]
  refine (outR_pad _ _ _ _).trans ?_
  unfold target
  have e : 512 * (t.val / 512) + t.val % 512 = t.val := Nat.div_add_mod _ _
  show (∑ r : Fin 12, (heatR _ r (512 * (t.val / 512) + t.val % 512 + 1) : EReal) * _) = _
  rw [e]
  rfl

end Cert.KernelIdeal.Hand

end
-- ==== Proof.ReferenceValue.lean ====
/- The reference's result: the loop's entry, its trips and the product after it. -/
module

public import proofs.«01_k».proof.Proof.Target
public import proofs.«01_k».proof.Proof.Gen.ReferenceIdeal.Run
public import Idealize.ShloMosaic.Lib.Pointwise
public import Idealize.ShloMosaic.Lib.DynamicIndex
public import Idealize.ShloMosaic.Lib.WordCmp

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo
open Idealize.SL.Sem
open Idealize.ShloMosaic.WordCmp
open Cert.KernelIdeal.Hand (dR heatR noteAt noteAt_of target)

variable (m : (ℓ : Loc nD τ sig) → Buf (Elt Ideal) ℓ) (c : Dev nD)

/-- The loop enters with every note's one-hot row, masked. -/
theorem entry_notes (t : Fin 524288) (r : Fin 12) :
    entryContents preI m c (Proc.devRef .tc main_v12_0) (ix2 t r) = (Heat.note (noteAt (m ((c.tc : Thread nD τ).loc main_arg0)) t.val) r.val : EReal) := by
  simp only [entryContents, afterL_cons, afterL_nil]
  after_reads_simp
  simp only [TRef.ofBuf, TRef.toBuf, eqRec_eq_cast, cast_cast, cast_eq, id_eq]
  pointwise
  rw [Heat.key_host, noteAt_of]
  exact Heat.note_host _ _

/-- 3999 as a single-precision word. -/
theorem num_val : (Ideal.ofBits FTy.f32 1165619200#32 : EReal) = ((3999 : ℝ) : EReal) := by
  simp [Ideal.ofBits, Ideal.ieee, -EReal.coe_mul]; norm_num

/-- 4001 as a single-precision word. -/
theorem den_val : (Ideal.ofBits FTy.f32 1165627392#32 : EReal) = ((4001 : ℝ) : EReal) := by
  simp [Ideal.ofBits, Ideal.ieee, -EReal.coe_mul]; norm_num

/-- The loop enters with the decay. -/
theorem entry_decay (j : S_.Idx) : entryContents preI m c (Proc.devRef .tc main_v12_1) j = (dR : EReal) := by
  simp only [entryContents, afterL_cons, afterL_nil]
  after_reads_simp
  rw [id_eq]
  pointwise
  rw [num_val, den_val, Ideal.div_coe (by norm_num), ← EReal.coe_mul]
  exact congrArg _ (by unfold Cert.KernelIdeal.Hand.dR; norm_num)

/-- The loop enters with no heat. -/
theorem entry_heats (r : Fin 12) : entryContents preI m c (Proc.devRef .tc main_v12_3) (ix1 r) = ((0 : ℝ) : EReal) := by
  simp only [entryContents, afterL_cons, afterL_nil]
  after_reads_simp
  rw [id_eq]
  pointwise
  rfl

/-- The heats one trip leaves, from those before it, the decay and the trip's note. -/
theorem res_at (V : Valuation τ sig (Elt Ideal)) (k : Fin 524288) (hk : V (Proc.devRef .tc main_v12_2) = fun _ => BitVec.ofNat 32 k.val) (r : Fin 12)
    (h i : ℝ) (hd : ∀ j, V (Proc.devRef .tc main_v12_1) j = (dR : EReal)) (hh : V (Proc.devRef .tc main_v12_3) (ix1 r) = (h : EReal))
    (hi : V (Proc.devRef .tc main_v12_0) (ix2 k r) = (i : EReal)) :
    res_main_while0b_v20 V (ix1 r) = ((min (h * dR + i) 5 : ℝ) : EReal) := by
  have hs : S524288x12.Slices ![k.val, 0] S1x12 := ⟨rfl, fun a => by have := k.isLt; fin_cases a <;> simp [S524288x12, S1x12] <;> omega⟩
  unfold res_main_while0b_v20
  rw [hk, Host.dynamicSlice_eq_extractStridedSlice S1x12 _ _ ![k.val, 0] _ hs (fun a => by
    have := k.isLt
    fin_cases a
    · exact Idealize.ShloMosaic.toInt_ofNat_of_lt (by omega)
    · rfl)]
  pointwise
  rw [hh, hd, hi, Cert.KernelIdeal.Hand.five]
  push_cast
  rfl

/-- The stacked heats one trip leaves: the trip's own row, and the rest as they were. -/
theorem stack_at (V : Valuation τ sig (Elt Ideal)) (k : Fin 524288) (hk : V (Proc.devRef .tc main_v12_2) = fun _ => BitVec.ofNat 32 k.val) (t : Fin 524288) (r : Fin 12) :
    step_main_v12_4 V (ix2 t r) = if t = k then res_main_while0b_v20 V (ix1 r) else V (Proc.devRef .tc main_v12_4) (ix2 t r) := by
  have hs : S524288x12.Slices ![k.val, 0] S1x12 := ⟨rfl, fun a => by have := k.isLt; fin_cases a <;> simp [S524288x12, S1x12] <;> omega⟩
  unfold step_main_v12_4
  rw [id_eq, hk, dynamicUpdateSlice_eq_update _ _ _ _ ![k.val, 0] hs (fun a => by
    have := k.isLt
    fin_cases a
    · exact Idealize.ShloMosaic.toInt_ofNat_of_lt (by omega)
    · rfl)]
  generalize res_main_while0b_v20 V = R
  pointwise
  by_cases e : t = k
  · subst e
    rw [if_pos rfl, dif_pos]
    intro a
    have := r.isLt
    fin_cases a
    · exact ⟨Nat.le_refl _, Nat.lt_succ_self _⟩
    · exact ⟨Nat.zero_le _, by simpa using r.isLt⟩
  · rw [if_neg e, dif_neg]
    intro h
    have h0 := h (0 : Fin 2)
    have h1 : k.val ≤ t.val := h0.1
    have h2 : t.val < k.val + 1 := h0.2
    exact e (Fin.ext (by omega))

/-- What holds before trip `k`: the counter, the notes and the decay, the heats after `k` notes, and the rows stacked so far. -/
def Inv (k : ℕ) (V : Valuation τ sig (Elt Ideal)) : Prop :=
  V (Proc.devRef .tc main_v12_2) = (fun _ => BitVec.ofNat 32 k)
  ∧ (∀ (t : Fin 524288) (r : Fin 12), V (Proc.devRef .tc main_v12_0) (ix2 t r) = (Heat.note (noteAt (m ((c.tc : Thread nD τ).loc main_arg0)) t.val) r.val : EReal))
  ∧ (∀ j, V (Proc.devRef .tc main_v12_1) j = (dR : EReal))
  ∧ (∀ r : Fin 12, V (Proc.devRef .tc main_v12_3) (ix1 r) = (heatR (noteAt (m ((c.tc : Thread nD τ).loc main_arg0))) r.val k : EReal))
  ∧ ∀ (t : Fin 524288) (r : Fin 12), t.val < k →
      V (Proc.devRef .tc main_v12_4) (ix2 t r) = (heatR (noteAt (m ((c.tc : Thread nD τ).loc main_arg0))) r.val (t.val + 1) : EReal)

/-- One trip carries it on. -/
theorem inv_step (k : Fin 524288) (V : Valuation τ sig (Elt Ideal)) (h : Inv m c k.val V) : Inv m c (k.val + 1) (STEP V) := by
  obtain ⟨h2, h0, h1, h3, h4⟩ := h
  have hr : ∀ r : Fin 12, res_main_while0b_v20 V (ix1 r) = (heatR (noteAt (m ((c.tc : Thread nD τ).loc main_arg0))) r.val (k.val + 1) : EReal) := fun r =>
    res_at V k h2 r _ _ h1 (h3 r) (h0 k r)
  refine ⟨?_, ?_, ?_, ?_, ?_⟩
  · rw [STEP_main_v12_2]
    unfold step_main_v12_2
    rw [h2]
    funext j
    exact (BitVec.ofNat_add k.val 1).symm
  · rw [STEP_main_v12_0]; exact h0
  · rw [STEP_main_v12_1]; exact h1
  · rw [STEP_main_v12_3]; exact hr
  · rw [STEP_main_v12_4]
    intro t r ht
    rw [stack_at V k h2]
    split
    · next e => rw [e]; exact hr r
    · next e => exact h4 t r (by have : t.val ≠ k.val := fun q => e (Fin.ext q); omega)

/-- It holds before every trip, and after the last. -/
theorem inv_iter : ∀ k, k ≤ 524288 → Inv m c k (STEP^[k] (entryContents preI m c))
  | 0, _ => ⟨ctr_entry m c, entry_notes m c, entry_decay m c, entry_heats m c, fun _ _ h => absurd h (by omega)⟩
  | k + 1, h => by
    rw [Function.iterate_succ_apply']
    exact inv_step m c ⟨k, h⟩ _ (inv_iter k (by omega))

/-- The product after the loop, read at a time step and an output. -/
theorem out_at (A : S524288x12.Idx → EReal) (w : S12x84.Idx → EReal) (t : Fin 524288) (a : Fin 7) (b : Fin 12) :
    shapeCast S1x524288x7x12 (Host.dotGeneral (F := Ideal) (φ₁ := .f32) (φ₂ := .f32) dot_S524288x12_S12x84_S524288x84_1_0_0_1_n_n none A w) shapeCasts_S524288x84_S1x524288x7x12 (ix4 (0 : Fin 1) t a b)
      = ∑ r : Fin 12, A (ix2 t r) * w (ix2 (n0 := 12) (n1 := 84) r ⟨12 * a.val + b.val, by omega⟩) := by
  pointwise
  refine Finset.sum_congr rfl fun r _ => ?_
  exact congrArg (fun q => A (ix2 t r) * w (ix2 (n0 := 12) (n1 := 84) r q)) (Fin.ext (by dsimp only; omega))

/-- The reference's result. -/
theorem value : out_main_v14 (STEP^[524288] (entryContents preI m c))
    = target (m ((c.tc : Thread nD τ).loc main_arg0)) (m ((c.tc : Thread nD τ).loc main_arg1)) := by
  unfold out_main_v14
  rw [iter_main_arg1]
  have h := (inv_iter m c 524288 le_rfl).2.2.2.2
  revert h
  generalize STEP^[524288] (entryContents preI m c) = V
  intro h
  funext j
  obtain ⟨t, a, b, rfl⟩ : ∃ (t : Fin 524288) (a : Fin 7) (b : Fin 12), j = ix4 (0 : Fin 1) t a b :=
    ⟨j 1, j 2, j 3, funext fun i => by fin_cases i <;> first | rfl | exact Subsingleton.elim (α := Fin 1) _ _⟩
  refine (out_at _ _ t a b).trans ?_
  unfold target
  refine Finset.sum_congr rfl fun r _ => ?_
  exact congrArg (fun e : EReal => e * _) (h t r t.isLt)

end Cert.ReferenceIdeal.Hand

end
-- ==== Proof.Algebraic.lean ====
/- The kernel and the reference over the extended reals end with the same result. -/
module

public import proofs.«01_k».proof.Defs
public import proofs.«01_k».proof.Proof.KernelHost
public import proofs.«01_k».proof.Proof.ReferenceValue

@[expose] public section

noncomputable section

namespace Cert.Proof

open Idealize.ShloMosaic Idealize.SL.Sem

/-- From memories agreeing on the notes and the weights, both programs run and end with the heats after every note against the weights. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => Cert.KernelIdeal.Hand.target (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run _ _ _).mono ?_ (Cert.KernelIdeal.Hand.run (F := Ideal) m g)
    rintro r ⟨hr, -⟩ c
    exact ⟨(hr c).1.trans (Cert.KernelIdeal.Hand.value m g c), (hr c).2.1, (hr c).2.2⟩
  · refine (θ_run _ _ _).mono ?_ (Cert.ReferenceIdeal.Value.run (F := Ideal) m' g')
    intro r hr c
    refine ⟨(hr c).1.trans ((Cert.ReferenceIdeal.Hand.value m' c).trans ?_), (hr c).2.1, (hr c).2.2⟩
    exact congrArg₂ Cert.KernelIdeal.Hand.target (hm c).1 (hm c).2

end Cert.Proof

end
-- ==== Proof.lean ====
module

public import proofs.«01_k».proof.Defs
public import proofs.«01_k».proof.Proof.Frames
public import proofs.«01_k».proof.Proof.Algebraic
public import proofs.«01_k».proof.Proof.Gen.ReferenceIdeal.Run

@[expose] public section

noncomputable section

namespace Cert.Proof

open Idealize.ShloMosaic Idealize.SL.Sem

/-- Every claim of this certificate. -/
theorem claim : Cert.Claim := ⟨Cert.Kernel.Gen.facts, Cert.KernelIdeal.Gen.facts, Cert.ReferenceIdeal.Gen.facts,
  quiescent_kernel, quiescent_kernelIdeal, quiescent_reference, preserves, algebraic⟩

end Cert.Proof

end
